-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![1024, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S3x64x256 : Shape := ⟨3, ![3, 64, 256]⟩
abbrev S64x256 : Shape := ⟨2, ![64, 256]⟩
abbrev S3 : Shape := ⟨1, ![3]⟩
abbrev S_ : Shape := ⟨0, ![]⟩
abbrev S1 : Shape := ⟨1, ![1]⟩
abbrev S1x64x256 : Shape := ⟨3, ![1, 64, 256]⟩

abbrev nBuf : Space → Nat
  | .hbm => 2
  | .vmem => 5
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S3x64x256, .f32⟩
  | .local _ .vmem, ⟨3, _⟩ => ⟨S3x64x256, .f32⟩
  | .local _ .vmem, ⟨4, _⟩ => ⟨S64x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c64_i32 : BitVec 32 := 64#32
  let v54 : BitVec 32 := Scalar.muli v53 c64_i32
  let c0_i32_42 : BitVec 32 := 0#32
  ![v54.toNat, 0]
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_38 : BitVec 32 := 1#32
  let v55 : BitVec 32 := Scalar.muli v53 c1_i32_38
  let v56 : BitVec 32 := Scalar.addi c0_i32_39 v55
  v56.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_43 : BitVec 32 := 2#32
  let v64 : BitVec 32 := Scalar.addi v2 c2_i32_43
  let c4_i32_44 : BitVec 32 := 4#32
  let c0_i32_45 : BitVec 32 := 0#32
  let v65 : BitVec 1 := Scalar.cmpi .eq c4_i32_44 c0_i32_45
  let c1_i32_46 : BitVec 32 := 1#32
  let v66 : BitVec 32 := Scalar.select v65 c1_i32_46 c4_i32_44
  let v67 : BitVec 32 := Scalar.remsi v64 v66
  let c0_i32_48 : BitVec 32 := 0#32
  let v69 : BitVec 1 := Scalar.cmpi .slt v67 c0_i32_48
  let c0_i32_49 : BitVec 32 := 0#32
  let v70 : BitVec 1 := Scalar.cmpi .slt v66 c0_i32_49
  let v71 : BitVec 1 := Scalar.xori v69 v70
  let c0_i32_47 : BitVec 32 := 0#32
  let v68 : BitVec 1 := Scalar.cmpi .ne v67 c0_i32_47
  let v72 : BitVec 1 := Scalar.andi v71 v68
  let v73 : BitVec 32 := Scalar.addi v67 v66
  let v74 : BitVec 32 := Scalar.select v72 v73 v67
  let c1_i32_54 : BitVec 32 := 1#32
  let v76 : BitVec 32 := Scalar.muli v74 c1_i32_54
  let v77 : BitVec 32 := Scalar.addi c0_i32_55 v76
  v77.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v85 : BitVec 32 := Scalar.addi v2 c3_i32_59
  let c4_i32_60 : BitVec 32 := 4#32
  let c0_i32_61 : BitVec 32 := 0#32
  let v86 : BitVec 1 := Scalar.cmpi .eq c4_i32_60 c0_i32_61
  let c1_i32_62 : BitVec 32 := 1#32
  let v87 : BitVec 32 := Scalar.select v86 c1_i32_62 c4_i32_60
  let v88 : BitVec 32 := Scalar.remsi v85 v87
  let c0_i32_64 : BitVec 32 := 0#32
  let v90 : BitVec 1 := Scalar.cmpi .slt v88 c0_i32_64
  let c0_i32_65 : BitVec 32 := 0#32
  let v91 : BitVec 1 := Scalar.cmpi .slt v87 c0_i32_65
  let v92 : BitVec 1 := Scalar.xori v90 v91
  let c0_i32_63 : BitVec 32 := 0#32
  let v89 : BitVec 1 := Scalar.cmpi .ne v88 c0_i32_63
  let v93 : BitVec 1 := Scalar.andi v92 v89
  let v94 : BitVec 32 := Scalar.addi v88 v87
  let v95 : BitVec 32 := Scalar.select v93 v94 v88
  let c1_i32_70 : BitVec 32 := 1#32
  let v97 : BitVec 32 := Scalar.muli v95 c1_i32_70
  let v98 : BitVec 32 := Scalar.addi c0_i32_71 v97
  v98.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_99 : BitVec 32 := 64#32
  let v127 : BitVec 32 := Scalar.muli v2 c64_i32_99
  let v128 : Index := Scalar.indexCast v127
  let c0 : Index := 0#32
  ![v128.toNat, 0]
def k0_dev7 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_113 : BitVec 32 := 1#32
  let v147 : BitVec 32 := Scalar.addi v2 c1_i32_113
  let c4_i32_114 : BitVec 32 := 4#32
  let c0_i32_115 : BitVec 32 := 0#32
  let v148 : BitVec 1 := Scalar.cmpi .eq c4_i32_114 c0_i32_115
  let c1_i32_116 : BitVec 32 := 1#32
  let v149 : BitVec 32 := Scalar.select v148 c1_i32_116 c4_i32_114
  let v150 : BitVec 32 := Scalar.remsi v147 v149
  let c0_i32_118 : BitVec 32 := 0#32
  let v152 : BitVec 1 := Scalar.cmpi .slt v150 c0_i32_118
  let c0_i32_119 : BitVec 32 := 0#32
  let v153 : BitVec 1 := Scalar.cmpi .slt v149 c0_i32_119
  let v154 : BitVec 1 := Scalar.xori v152 v153
  let c0_i32_117 : BitVec 32 := 0#32
  let v151 : BitVec 1 := Scalar.cmpi .ne v150 c0_i32_117
  let v155 : BitVec 1 := Scalar.andi v154 v151
  let v156 : BitVec 32 := Scalar.addi v150 v149
  let v157 : BitVec 32 := Scalar.select v155 v156 v150
  let c1_i32_123 : BitVec 32 := 1#32
  let v158 : BitVec 32 := Scalar.muli v157 c1_i32_123
  let v159 : BitVec 32 := Scalar.addi c0_i32_124 v158
  v159.toNat
def k0_dev8 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_127 : BitVec 32 := 2#32
  let v166 : BitVec 32 := Scalar.addi v2 c2_i32_127
  let c4_i32_128 : BitVec 32 := 4#32
  let c0_i32_129 : BitVec 32 := 0#32
  let v167 : BitVec 1 := Scalar.cmpi .eq c4_i32_128 c0_i32_129
  let c1_i32_130 : BitVec 32 := 1#32
  let v168 : BitVec 32 := Scalar.select v167 c1_i32_130 c4_i32_128
  let v169 : BitVec 32 := Scalar.remsi v166 v168
  let c0_i32_132 : BitVec 32 := 0#32
  let v171 : BitVec 1 := Scalar.cmpi .slt v169 c0_i32_132
  let c0_i32_133 : BitVec 32 := 0#32
  let v172 : BitVec 1 := Scalar.cmpi .slt v168 c0_i32_133
  let v173 : BitVec 1 := Scalar.xori v171 v172
  let c0_i32_131 : BitVec 32 := 0#32
  let v170 : BitVec 1 := Scalar.cmpi .ne v169 c0_i32_131
  let v174 : BitVec 1 := Scalar.andi v173 v170
  let v175 : BitVec 32 := Scalar.addi v169 v168
  let v176 : BitVec 32 := Scalar.select v174 v175 v169
  let c1_i32_137 : BitVec 32 := 1#32
  let v177 : BitVec 32 := Scalar.muli v176 c1_i32_137
  let v178 : BitVec 32 := Scalar.addi c0_i32_138 v177
  v178.toNat
def k0_dev9 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_141 : BitVec 32 := 3#32
  let v185 : BitVec 32 := Scalar.addi v2 c3_i32_141
  let c4_i32_142 : BitVec 32 := 4#32
  let c0_i32_143 : BitVec 32 := 0#32
  let v186 : BitVec 1 := Scalar.cmpi .eq c4_i32_142 c0_i32_143
  let c1_i32_144 : BitVec 32 := 1#32
  let v187 : BitVec 32 := Scalar.select v186 c1_i32_144 c4_i32_142
  let v188 : BitVec 32 := Scalar.remsi v185 v187
  let c0_i32_146 : BitVec 32 := 0#32
  let v190 : BitVec 1 := Scalar.cmpi .slt v188 c0_i32_146
  let c0_i32_147 : BitVec 32 := 0#32
  let v191 : BitVec 1 := Scalar.cmpi .slt v187 c0_i32_147
  let v192 : BitVec 1 := Scalar.xori v190 v191
  let c0_i32_145 : BitVec 32 := 0#32
  let v189 : BitVec 1 := Scalar.cmpi .ne v188 c0_i32_145
  let v193 : BitVec 1 := Scalar.andi v192 v189
  let v194 : BitVec 32 := Scalar.addi v188 v187
  let v195 : BitVec 32 := Scalar.select v193 v194 v188
  let c1_i32_151 : BitVec 32 := 1#32
  let v196 : BitVec 32 := Scalar.muli v195 c1_i32_151
  let v197 : BitVec 32 := Scalar.addi c0_i32_152 v196
  v197.toNat
def k0_off3 (d0 : Dev nD) (c1_i32_165 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v212 : BitVec 32 := Scalar.subi v2 c1_i32_165
  let c4_i32_166 : BitVec 32 := 4#32
  let c0_i32_167 : BitVec 32 := 0#32
  let v213 : BitVec 1 := Scalar.cmpi .eq c4_i32_166 c0_i32_167
  let c1_i32_168 : BitVec 32 := 1#32
  let v214 : BitVec 32 := Scalar.select v213 c1_i32_168 c4_i32_166
  let v215 : BitVec 32 := Scalar.remsi v212 v214
  let c0_i32_170 : BitVec 32 := 0#32
  let v217 : BitVec 1 := Scalar.cmpi .slt v215 c0_i32_170
  let c0_i32_171 : BitVec 32 := 0#32
  let v218 : BitVec 1 := Scalar.cmpi .slt v214 c0_i32_171
  let v219 : BitVec 1 := Scalar.xori v217 v218
  let c0_i32_169 : BitVec 32 := 0#32
  let v216 : BitVec 1 := Scalar.cmpi .ne v215 c0_i32_169
  let v220 : BitVec 1 := Scalar.andi v219 v216
  let v221 : BitVec 32 := Scalar.addi v215 v214
  let v222 : BitVec 32 := Scalar.select v220 v221 v215
  let c64_i32_172 : BitVec 32 := 64#32
  let v223 : BitVec 32 := Scalar.muli v222 c64_i32_172
  let v224 : Index := Scalar.indexCast v223
  let c0_173 : Index := 0#32
  ![v224.toNat, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x256 : Shape := ⟨2, ![1024, 256]⟩
abbrev S4x256x256 : Shape := ⟨3, ![4, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S4x256x256, .f32⟩
  | .hbm, ⟨2, _⟩ => ⟨S_, .f32⟩
  | .hbm, ⟨3, _⟩ => ⟨S256x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdealProtocol.lean ====
/-
# The protocol of the four-device reduce-scatter and all-gather

Each device of the mesh first signals the barrier semaphore of the other three and waits for their three signals.
Then it sends to each of the other three the rows of its array that this device will sum, sums its own rows with the
three blocks it received, and sends its sum to the other three. At the end every device holds all four sums.

This module names the devices at the three offsets, the semaphore cells, the contents every buffer holds at each
stage, and the schedule of the cells: one round, whose duties are the signals and the copies.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the cells' rounds: a duty is named by one of the three offsets. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The devices at the three offsets -/

set_option backward.proofsInPublic true in
/-- The device `j + 1` places after `c`. -/
def nxt (j : Fin 3) (c : Dev nD) : Dev nD := ⟨(c.val + (j.val + 1)) % 4, Nat.mod_lt _ (by decide)⟩

/-- The offset that undoes offset `j`. -/
def rev (j : Fin 3) : Fin 3 := ⟨2 - j.val, by omega⟩

/-- The device whose `nxt j` is `c`. -/
def prv (j : Fin 3) (c : Dev nD) : Dev nD := nxt (rev j) c

theorem prv_nxt (j : Fin 3) (c : Dev nD) : prv j (nxt j c) = c := by revert j c; decide
theorem nxt_prv (j : Fin 3) (c : Dev nD) : nxt j (prv j c) = c := by revert j c; decide
theorem rev_rev (j : Fin 3) : rev (rev j) = j := by revert j; decide

/-- Every device is moved by an offset, and the four offsets reach every device. -/
def rot (j : Fin 3) : Dev nD ≃ Dev nD := ⟨nxt j, prv j, prv_nxt j, nxt_prv j⟩

/-- The device `k` places after `c`, `c` itself at `k = 0`. -/
def place (c : Dev nD) : Fin 4 → Dev nD := fun k => ⟨(c.val + k.val) % 4, Nat.mod_lt _ (by decide)⟩
theorem place_zero (c : Dev nD) : place c 0 = c := by revert c; decide
theorem place_bij (c : Dev nD) : Function.Bijective (place c) := by revert c; decide

/-- The devices the program's index arithmetic names. -/
theorem dev1_eq (c : Dev nD) : (⟨k0_dev1 c, k0_dev1_lt c⟩ : Dev nD) = nxt 0 c := Fin.ext (by revert c; decide +kernel)
theorem dev2_eq (c : Dev nD) : (⟨k0_dev2 c, k0_dev2_lt c⟩ : Dev nD) = nxt 1 c := Fin.ext (by revert c; decide +kernel)
theorem dev3_eq (c : Dev nD) : (⟨k0_dev3 c, k0_dev3_lt c⟩ : Dev nD) = nxt 2 c := Fin.ext (by revert c; decide +kernel)
theorem dev4_eq (c : Dev nD) : (⟨k0_dev4 c, k0_dev4_lt c⟩ : Dev nD) = nxt 0 c := Fin.ext (by revert c; decide +kernel)
theorem dev5_eq (c : Dev nD) : (⟨k0_dev5 c, k0_dev5_lt c⟩ : Dev nD) = nxt 1 c := Fin.ext (by revert c; decide +kernel)
theorem dev6_eq (c : Dev nD) : (⟨k0_dev6 c, k0_dev6_lt c⟩ : Dev nD) = nxt 2 c := Fin.ext (by revert c; decide +kernel)
theorem dev7_eq (c : Dev nD) : (⟨k0_dev7 c, k0_dev7_lt c⟩ : Dev nD) = nxt 0 c := Fin.ext (by revert c; decide +kernel)
theorem dev8_eq (c : Dev nD) : (⟨k0_dev8 c, k0_dev8_lt c⟩ : Dev nD) = nxt 1 c := Fin.ext (by revert c; decide +kernel)
theorem dev9_eq (c : Dev nD) : (⟨k0_dev9 c, k0_dev9_lt c⟩ : Dev nD) = nxt 2 c := Fin.ext (by revert c; decide +kernel)

/-- The row offset of the rows device `d` sums. -/
abbrev rowOff (d : Dev nD) : Fin 2 → Nat := ![64 * d.val, 0]

theorem off1_eq (c : Dev nD) (j : Fin 3) : k0_off1 c (BitVec.ofNat 32 (1 + j.val)) = rowOff (nxt j c) := by
  revert c j; decide +kernel
theorem off2_eq (c : Dev nD) : k0_off2 c = rowOff c := k0_off2_eq c
theorem off3_eq (c : Dev nD) (j : Fin 3) : k0_off3 c (BitVec.ofNat 32 (1 + j.val)) = rowOff (prv j c) := by
  revert c j; decide +kernel

/-! ## Buffers, rectangles and views -/

abbrev xM : Memref sig .tc .vmem S256x256 .f32 := Memref.whole cc0_stg0_0
abbrev oM : Memref sig .tc .vmem S256x256 .f32 := Memref.whole cc0_stg1_0
abbrev rsM : Memref sig .tc .vmem S3x64x256 .f32 := Memref.whole cc0_scratch0
abbrev agM : Memref sig .tc .vmem S3x64x256 .f32 := Memref.whole cc0_scratch1
abbrev redM : Memref sig .tc .vmem S64x256 .f32 := Memref.whole cc0_scratch2

theorem row_inb (d : Dev nD) : ∀ a, rowOff d a + S64x256.size a ≤ S256x256.size a := by
  revert d; decide
theorem slot_inb (j : Fin 3) : ∀ a, (![j.val, 0, 0] : Fin 3 → Nat) a + S1x64x256.size a ≤ S3x64x256.size a := by
  revert j; decide

/-- The rows device `d` sums; -/
abbrev rowR (d : Dev nD) : Rect S256x256 := Rect.unit (s := S256x256) (rowOff d) S64x256.size (row_inb d)
/-- slot `j` of a receive buffer. -/
abbrev slotR (j : Fin 3) : Rect S3x64x256 := Rect.unit (s := S3x64x256) ![j.val, 0, 0] S1x64x256.size (slot_inb j)

abbrev rowSet (d : Dev nD) : Finset S256x256.Idx := (rowR d).set
abbrev slotSet (j : Fin 3) : Finset S3x64x256.Idx := (slotR j).set

/-- The source of device `c`'s `j`-th copy of the first phase; -/
abbrev srcM (c : Dev nD) (j : Fin 3) : Memref sig .tc .vmem S64x256 .f32 :=
  xM.slice (Rect.unit (s := S256x256) (k0_off1 c (BitVec.ofNat 32 (1 + j.val))) S64x256.size (k0_off1_inb c j)) (fun _ => rfl)
/-- slot `j` of a receive buffer as a view of the block's shape. -/
abbrev slotM (a : Memref sig .tc .vmem S3x64x256 .f32) (j : Fin 3) : Memref sig .tc .vmem S64x256 .f32 :=
  (a.slice (slotR j) (fun _ => rfl)).squeeze S64x256 squeezes_S1x64x256_S64x256

theorem src_set (c : Dev nD) (j : Fin 3) : (srcM c j).view.set = rowSet (nxt j c) := by
  exact (View.set_slice_whole _ _).trans (congrArg (fun r : Rect S256x256 => r.set) (Rect.unit_congr (off1_eq c j) _ _))
theorem rs_set (j : Fin 3) : (slotM rsM j).view.set = slotSet j :=
  (View.set_reshape _ _).trans (View.set_slice_whole _ _)
theorem ag_set (j : Fin 3) : (slotM agM j).view.set = slotSet j :=
  (View.set_reshape _ _).trans (View.set_slice_whole _ _)
theorem red_set : redM.view.set = Finset.univ := View.set_whole _

/-- The receive buffers' index without its slot. -/
def drop (i : S3x64x256.Idx) : S64x256.Idx := fun a => i a.succ

theorem slot_emb (a : Memref sig .tc .vmem S3x64x256 .f32) (j : Fin 3) (y : S64x256.Idx) :
    (slotM a j).view.emb y = a.view.emb ((slotR j).emb (Fin.cons ⟨0, Nat.one_pos⟩ y)) := by
  rw [← Shape.reshapeEquiv_cons_one squeezes_S1x64x256_S64x256.numel_eq y]; rfl

theorem slotR_zero (j : Fin 3) (z : S1x64x256.Idx) : ((slotR j).emb z : S3x64x256.Idx) 0 = j :=
  Fin.ext (by
    show (![j.val, 0, 0] : Fin 3 → Nat) 0 + 1 * (z 0).val = j.val
    have h : (z 0).val < 1 := (z 0).isLt
    show j.val + 1 * (z 0).val = j.val
    omega)
theorem slotR_drop (j : Fin 3) (y : S64x256.Idx) : drop ((slotR j).emb (Fin.cons ⟨0, Nat.one_pos⟩ y)) = y := by
  funext a
  refine Fin.ext ?_
  fin_cases a
  · show 0 + 1 * (y 0).val = (y 0).val; omega
  · show 0 + 1 * (y 1).val = (y 1).val; omega

/-! ## The semaphores and their cells -/

/-- The barrier semaphore of the collective. -/
abbrev barS : Sem sig := (SemArray.scalar (sig.barrier 0 rfl) : Sems sig S_).sem
/-- The copies' semaphores: families 0 and 1 are the first phase's send and receive, 2 and 3 the second's. -/
def fS (f : Fin 4) (j : Fin 3) : DmaSem sig := (⟨2 + (3 * f.val + j.val), by omega⟩ : Fin 14)
def famOf (q : DmaSem sig) : Fin 4 := ⟨((q : Fin 14).val - 2) / 3, by have h : (q : Fin 14).val < 14 := (q : Fin 14).isLt; omega⟩
def offOf (q : DmaSem sig) : Fin 3 := ⟨((q : Fin 14).val - 2) % 3, by omega⟩
theorem fam_fS (f : Fin 4) (j : Fin 3) : famOf (fS f j) = f := by revert f j; decide
theorem off_fS (f : Fin 4) (j : Fin 3) : offOf (fS f j) = j := by revert f j; decide

/-- A device's cells: the barrier's, and one per family and offset. -/
abbrev CK : Type := Option (Fin 4 × Fin 3)
abbrev csem : CK → SemLoc sig := fun | none => .reg barS | some (f, j) => .dma (fS f j)
abbrev kcell (ck : Dev nD × CK) : GSem nD τ sig := ((ck.1 : Thread nD τ), csem ck.2)
abbrev barCell (c : Dev nD) : GSem nD τ sig := kcell (c, none)
abbrev cell (c : Dev nD) (f : Fin 4) (j : Fin 3) : GSem nD τ sig := kcell (c, some (f, j))

/-- The credit of one block. -/
abbrev N : ℕ := redM.view.dmaCredit
theorem N_pos : 0 < N := View.dmaCredit_pos _ (by decide)

/-! ## Contents -/

/-- Device `c`'s staged array; -/
def xstg (c : Dev nD) : (cc0_stg0_0 : Ref sig .tc).ty.Contents (Elt F) :=
  (win0_0.blk (0 : Fin 1)).view.read (Elt F) ((s₀ m ρ).mem ((c : Thread nD τ).loc main_arg0))

/-- what its first receive buffer holds once all three blocks are in: slot `j` the rows of `prv j c`; -/
def rsAll (c : Dev nD) : (cc0_scratch0 : Ref sig .tc).ty.Contents (Elt F) :=
  fun i => xstg m ρ (prv ((i : S3x64x256.Idx) 0) c) ((rowR c).emb (drop i))

abbrev xRd (c : Dev nD) : Vec F S64x256 .f32 :=
  xM.view.readAt (Elt F) (Rect.unit (s := S256x256) (k0_off2 c) S64x256.size (k0_off2_inb c)).toLoadRect (xstg m ρ c)
abbrev rsRd (c : Dev nD) (j : Fin 3) : Vec F S1x64x256 .f32 :=
  rsM.view.readAt (Elt F) (slotR j).toLoadRect (rsAll m ρ c)

/-- its sum; -/
def red (c : Dev nD) : (cc0_scratch2 : Ref sig .tc).ty.Contents (Elt F) :=
  k0_pay1 (xRd m ρ c) (rsRd m ρ c 0) (rsRd m ρ c 1) (rsRd m ρ c 2)

/-- what its second receive buffer holds once all three sums are in; -/
def agAll (c : Dev nD) : (cc0_scratch1 : Ref sig .tc).ty.Contents (Elt F) :=
  fun i => red m ρ (prv ((i : S3x64x256.Idx) 0) c) (drop i)

/-- the device that sums row `i 0`, and the row's place in its block; -/
def rowDev (i : S256x256.Idx) : Dev nD := ⟨(i 0).val / 64, by have h : (i 0).val < 256 := (i 0).isLt; show (i 0).val / 64 < 4; omega⟩
def rowIn (i : S256x256.Idx) : S64x256.Idx := Shape.pair ⟨(i 0).val % 64, Nat.mod_lt _ (by decide)⟩ (i 1)

/-- the result, the same on every device. -/
def outAll : (cc0_stg1_0 : Ref sig .tc).ty.Contents (Elt F) := fun i => red m ρ (rowDev i) (rowIn i)

/-! ## What the cells hand over -/

def xRow (c d : Dev nD) : sProp 𝕄 := ((c : Thread nD τ).loc cc0_stg0_0) ↦[rowSet d]{fullShare} xstg m ρ c
def rsSlot (c : Dev nD) (j : Fin 3) (f : (cc0_scratch0 : Ref sig .tc).ty.Contents (Elt F)) : sProp 𝕄 :=
  ((c : Thread nD τ).loc cc0_scratch0) ↦[slotSet j]{fullShare} f
def agSlot (c : Dev nD) (j : Fin 3) (f : (cc0_scratch1 : Ref sig .tc).ty.Contents (Elt F)) : sProp 𝕄 :=
  ((c : Thread nD τ).loc cc0_scratch1) ↦[slotSet j]{fullShare} f
/-- The share of the sum each of the three copies of the second phase reads. -/
def shr : Fin 3 → PosShare TreeShare
  | 0 => fullShare.left
  | 1 => fullShare.right.left
  | 2 => fullShare.right.right
def redPart (c : Dev nD) (q : PosShare TreeShare) : sProp 𝕄 :=
  ((c : Thread nD τ).loc cc0_scratch2) ↦[Finset.univ]{q} red m ρ c

/-- Duty `j` of `c`'s barrier cell is `prv j c`'s signal: it hands over the two slots `c` will write there. -/
def barPay (c : Dev nD) (j : Fin 3) : sProp 𝕄 :=
  iprop((∃ f, rsSlot (prv j c) (rev j) f) ∗ ∃ f, agSlot (prv j c) (rev j) f)

/-- A copy's duty hands over what the copy read (families 0 and 2) or what it wrote (families 1 and 3). -/
def dmaPay (c : Dev nD) (f : Fin 4) (j : Fin 3) : sProp 𝕄 := match f with
  | 0 => xRow m ρ c (nxt j c)
  | 1 => rsSlot c j (rsAll m ρ c)
  | 2 => redPart m ρ c (shr j)
  | 3 => agSlot c j (agAll m ρ c)

omit [FloatOps F] in
instance barPay_storable (c : Dev nD) (j : Fin 3) : BI.Storable (upEmb : UEmb _ 𝕄) (barPay (F := F) c j) := by
  unfold barPay rsSlot agSlot; infer_instance
instance dmaPay_storable (c : Dev nD) (f : Fin 4) (j : Fin 3) : BI.Storable (upEmb : UEmb _ 𝕄) (dmaPay (F := F) m ρ c f j) := by
  unfold dmaPay xRow rsSlot agSlot redPart; split <;> infer_instance

/-! ## The schedule -/

def dutiesOf : SemLoc sig → Finset (Fin 3)
  | .reg _ => Finset.univ
  | .dma _ => {0}
def amountOf : SemLoc sig → ℕ
  | .reg _ => 1
  | .dma _ => N
def payOf (c : Dev nD) : SemLoc sig → Fin 3 → sProp 𝕄
  | .reg _, d => barPay c d
  | .dma q, _ => dmaPay m ρ c (famOf q) (offOf q)

def kRd : Rounds.Schedule (GSem nD τ sig) (Fin 3) 𝕄 where
  duties g r := if r = 0 then dutiesOf g.2 else ∅
  unitless _ := False
  amount g _ _ := amountOf g.2
  payload g _ d := payOf m ρ g.1.1 g.2 d
  amount_pos g _ _ _ := by
    cases g.2 with
    | reg _ => exact Nat.one_pos
    | dma _ => exact N_pos

instance kRd_payload_storable (g : GSem nD τ sig) (r : ℕ) (d : Fin 3) :
    BI.Storable (upEmb : UEmb _ 𝕄) ((kRd (F := F) m ρ).payload g r d) := by
  show BI.Storable upEmb (payOf m ρ g.1.1 g.2 d)
  unfold payOf
  split <;> infer_instance

section Sched
variable (c : Dev nD)

theorem duties_bar : (kRd (F := F) m ρ).duties (barCell c) 0 = Finset.univ := by
  dsimp only [kRd]; exact if_pos rfl
theorem duties_cell (f : Fin 4) (j : Fin 3) : (kRd (F := F) m ρ).duties (cell c f j) 0 = {0} := by
  dsimp only [kRd]; exact if_pos rfl
theorem duties_later (g : GSem nD τ sig) : ∀ r, 1 ≤ r → (kRd (F := F) m ρ).duties g r = ∅ :=
  fun r hr => by dsimp only [kRd]; exact if_neg (by omega)
theorem expect_bar : (kRd (F := F) m ρ).expect (barCell c) 0 = 3 := by
  unfold Schedule.expect Schedule.amountOf
  rw [duties_bar]; rfl
theorem expect_cell (f : Fin 4) (j : Fin 3) : (kRd (F := F) m ρ).expect (cell c f j) 0 = N := by
  unfold Schedule.expect Schedule.amountOf
  rw [duties_cell, Finset.sum_singleton]; rfl
theorem payload_bar (j : Fin 3) : (kRd (F := F) m ρ).payload (barCell c) 0 j = barPay c j := rfl
theorem payload_cell (f : Fin 4) (j d : Fin 3) : (kRd (F := F) m ρ).payload (cell c f j) 0 d = dmaPay m ρ c f j := by
  show dmaPay m ρ c (famOf (fS f j)) (offOf (fS f j)) = _
  rw [fam_fS, off_fS]
theorem rest_bar : bigSep ((kRd (F := F) m ρ).duties (barCell c) 0 \ ∅) (fun d => (kRd (F := F) m ρ).payload (barCell c) 0 d)
    = iprop(barPay c 0 ∗ barPay c 1 ∗ barPay c 2) := by
  rw [Finset.sdiff_empty, duties_bar, bigSep_univ_eq_bigSepL [0, 1, 2] (by decide) (by decide)]; rfl
theorem rest_cell (f : Fin 4) (j : Fin 3) :
    bigSep ((kRd (F := F) m ρ).duties (cell c f j) 0 \ ∅) (fun d => (kRd (F := F) m ρ).payload (cell c f j) 0 d) = dmaPay m ρ c f j := by
  rw [Finset.sdiff_empty, duties_cell, bigSep_singleton, payload_cell]

end Sched

/-! ## What is owed, and the order of waits -/

/-- A payment: the offset of the device it goes to, and which of that device's cells it credits. -/
abbrev Pay : Type := Fin 3 × CK
def amt : CK → ℕ
  | none => 1
  | some _ => N

/-- A list of payments still owed by device `c`, the first to be paid the last summand. -/
def owe (c : Dev nD) : List Pay → CellTallies nD τ sig Unit
  | [] => 0
  | p :: l => owe c l + tallyAt (kcell (nxt p.1 c, p.2)) () (amt p.2)

/-- The payments of the second phase, of both phases, and all of them, in the program's order. -/
abbrev pays₂ : List Pay := [(0, some (3, 0)), (1, some (3, 1)), (2, some (3, 2))]
abbrev pays₁ : List Pay := (0, some (1, 0)) :: (1, some (1, 1)) :: (2, some (1, 2)) :: pays₂
abbrev pays : List Pay := (0, none) :: (1, none) :: (2, none) :: pays₁

def O₀ (c : Dev nD) : CellTallies nD τ sig Unit := owe c pays

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier is waited on first, then the first phase's receives, then the second's; nothing is owed at other waits. -/
def lvS : SemLoc sig → ℕ
  | .reg _ => 1
  | .dma q => match famOf q with
    | 0 => 0
    | 1 => 2
    | 2 => 0
    | 3 => 3
def lv (g : GSem nD τ sig) (_ : Unit) : ℕ := lvS g.2

theorem owe_pos {c : Dev nD} {g : GSem nD τ sig} {u : Unit} : ∀ {l : List Pay}, 0 < owe c l g u → ∃ p ∈ l, g = kcell (nxt p.1 c, p.2)
  | [], h => absurd h (Nat.lt_irrefl 0)
  | p :: l, h => by
    unfold owe at h
    rw [Pi.add_apply, Finsupp.add_apply, tallyAt_apply] at h
    by_cases hg : g = kcell (nxt p.1 c, p.2) ∧ u = ()
    · exact ⟨p, List.mem_cons_self, hg.1⟩
    · rw [if_neg hg, Nat.add_zero] at h
      obtain ⟨q, hq, e⟩ := owe_pos h
      exact ⟨q, List.mem_cons_of_mem _ hq, e⟩

omit [FloatOps F] in
/-- A core may wait on a semaphore below every cell it still owes. -/
theorem mayWait (c : Dev nD) (sm : SemLoc sig) (l : List Pay) (h : ∀ p ∈ l, lvS sm < lvS (csem p.2)) :
    (levAts L lv : sProp 𝕄) ⊢ MayWait (c : Thread nD τ) sm () (owe c l) :=
  MayOwe.of_cut (L := L) (lev := lv) (lvS sm) (fun p hp => by rw [Finset.mem_singleton.mp hp, L_tc]; exact Finset.mem_singleton_self _)
    (fun g u hg => by obtain ⟨p, _, rfl⟩ := owe_pos hg; exact Finset.mem_singleton_self _)
    (fun p hp => by rw [Finset.mem_singleton.mp hp]; exact le_refl _)
    (fun g u hg => by obtain ⟨p, hp, rfl⟩ := owe_pos hg; exact h p hp)

end Cert.KernelIdealProof

end
-- ==== Proof.KernelIdealSteps.lean ====
/-
# One rule per effect of the kernel

Each rule runs one effect of the body against the cells' schedule: a signal, the barrier's wait, a copy of either
phase, a wait on a copy's semaphore. A cell's one wait ends its round, so each wait also gives the cell's counter back.
-/
module

public import proofs.«01_k».proof.Proof.KernelIdealProtocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A program of device `c`'s core runs to the postcondition `Q`. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` still owes, whatever it has waited on. -/
def Ow (c : Dev nD) (l : List Pay) : sProp 𝕄 := iprop(∃ W, owes (c : Thread nD τ) (owe c l) W)

/-! ## The cells' invariants, shared by every device -/

def records (K : Dev nD × CK → ℕ) : sProp 𝕄 :=
  iprop((bigSep Finset.univ fun ck : Dev nD × CK => cellInv ER (kRd m ρ) (K ck) (kcell ck))
    ∗ bigSep Finset.univ fun ck : Dev nD × CK => reached ER (kcell ck) 0)

instance records_persistent (K : Dev nD × CK → ℕ) : BI.Persistent (records m ρ K) := by unfold records; infer_instance

theorem records_inv (K : Dev nD × CK → ℕ) (ck : Dev nD × CK) : records m ρ K ⊢ cellInv ER (kRd m ρ) (K ck) (kcell ck) := by
  unfold records
  iintro ⟨H, -⟩
  iapply (show (bigSep Finset.univ fun ck : Dev nD × CK => (cellInv ER (kRd m ρ) (K ck) (kcell ck) : sProp 𝕄))
    ⊢ cellInv ER (kRd m ρ) (K ck) (kcell ck) from bigSep_elim (Finset.mem_univ ck))
  iexact H
theorem records_reached (K : Dev nD × CK → ℕ) (ck : Dev nD × CK) : records m ρ K ⊢ reached ER (kcell ck) 0 := by
  unfold records
  iintro ⟨-, H⟩
  iapply (show (bigSep Finset.univ fun ck : Dev nD × CK => (reached ER (kcell ck) 0 : sProp 𝕄))
    ⊢ reached ER (kcell ck) 0 from bigSep_elim (Finset.mem_univ ck))
  iexact H

variable (K : Dev nD × CK → ℕ)

/-! ## The signals and the barrier's wait -/

/-- Signal `j`: it pays duty `j` of `nxt j c`'s barrier cell with the two slots that device will write here. -/
theorem step_signal (c n : Dev nD) (j : Fin 3) (hn : n = nxt j c) (l : List Pay)
    {α : Type} {Q : α → sProp 𝕄} {k : PUnit → Prog (TpuEff nD τ sig (Elt F) Λ₀ .tc) α} :
    iprop(records m ρ K ∗ Ow c ((j, none) :: l) ∗ dutyTok ER (barCell (nxt j c)) 0 j
        ∗ (∃ f, rsSlot c (rev j) f) ∗ (∃ f, agSlot c (rev j) f))
      ⊢ iprop((Ow c l -∗ Runs c (k ⟨⟩) Q) -∗ Runs c (.op (.semSignal (n : Thread nD τ) barS (1#32).toInt) k) Q) := by
  subst hn
  unfold Ow
  iintro ⟨#HR, ⟨%W, HO⟩, Ht, Hs0, Hs1⟩ Hk
  iapply (Rounds.wp_signal 𝒱₀ ER (kRd m ρ) (c : Thread nD τ) none (dst := (nxt j c : Thread nD τ)) (κ := K (nxt j c, none))
      (d := j) (r := 0) (by rw [duties_bar]; exact Finset.mem_univ _) (show _ = 1 from rfl) () (owe c l) rfl (W := W)) $$ [HO Ht Hs0 Hs1]
  · isplitr; · iapply (records_inv m ρ K (nxt j c, none)); iexact HR
    isplitl [HO]; · iexact HO
    isplitl [Ht]; · iexact Ht
    isplitl [Hs0 Hs1]
    · rw [payload_bar]; unfold barPay; rw [prv_nxt]
      isplitl [Hs0]; · iexact Hs0
      iexact Hs1
    iapply (records_reached m ρ K (nxt j c, none)); iexact HR
  iintro HO
  iapply Hk
  iexists W; iexact HO

/-- The wait for the three signals: every slot device `c` will write on the other devices is now its own. -/
theorem step_barrier (c : Dev nD) (l : List Pay) (hl : ∀ p ∈ l, lvS (.reg barS) < lvS (csem p.2))
    {α : Type} {Q : α → sProp 𝕄} {k : PUnit → Prog (TpuEff nD τ sig (Elt F) Λ₀ .tc) α} :
    iprop(records m ρ K ∗ levAts L lv ∗ cred (tallyAt (barCell c) () 3) ∗ Ow c l ∗ atPos ER (barCell c) 0 ∅ 0)
      ⊢ iprop(((Ow c l ∗ semVal (barCell c) 0 ∗ barPay c 0 ∗ barPay c 1 ∗ barPay c 2) -∗ Runs c (k ⟨⟩) Q)
          -∗ Runs c (.op (.semWait barS (3#32).toInt) k) Q) := by
  unfold Ow
  iintro ⟨#HR, #Hlev, Hc, ⟨%W, HO⟩, Hat⟩ Hk
  iapply (Rounds.wp_wait_rest_token 𝒱₀ ER (kRd m ρ) (c : Thread nD τ) none (κ := K (c, none))
      (wpE_semWait_eq 𝒱₀ (c : Thread nD τ) none Set.univ) (Set.mem_univ _) () (k' := 3) (O := owe c l) (W := W) (R := 0) (m := 0) (T := ∅)
      (by rw [expect_bar])) $$ [Hc HO Hat]
  · isplitr; · iapply (records_inv m ρ K (c, none)); iexact HR
    isplitl [Hc]; · iexact Hc
    isplitl [HO]; · iexact HO
    isplitr; · iapply (mayWait c (.reg barS) l hl); iexact Hlev
    iexact Hat
  iintro ⟨HO, Hat, -, Hpay⟩
  imod (Rounds.cell_close ER (kRd m ρ) (Set.mem_univ (K (c, none))) (fun h => h) (R := 0 + 1) (duties_later m ρ (barCell c))) $$ [Hat] with Hz
  · isplitr; · iapply (records_inv m ρ K (c, none)); iexact HR
    iexact Hat
  ihave Hp := (Entails.of_eq (rest_bar m ρ c)) $$ Hpay
  iapply Hk
  isplitl [HO]; · iexists _; iexact HO
  isplitl [Hz]; · iexact Hz
  iexact Hp

/-! ## The waits on the copies -/

/-- The wait on cell `(f, j)`: what its copy hands over, and the cell's counter. -/
theorem step_wait (c : Dev nD) (f : Fin 4) (j : Fin 3) {sem : DmaSem sig} (hs : sem = fS f j) (l : List Pay)
    (hl : ∀ p ∈ l, lvS (.dma (fS f j)) < lvS (csem p.2)) {s' s : Shape} {e' e : EltTy}
    {src : Memref sig .tc .vmem s' e'} {dst : Memref sig .tc .vmem s e}
    {h₁ : src.view.WordExact} {h₂ : dst.view.WordExact} (hN : dst.view.dmaCredit = N)
    {α : Type} {Q : α → sProp 𝕄} {k : PUnit → Prog (TpuEff nD τ sig (Elt F) Λ₀ .tc) α} :
    iprop(records m ρ K ∗ levAts L lv ∗ cred (tallyAt (cell c f j) () N) ∗ Ow c l ∗ atPos ER (cell c f j) 0 ∅ 0)
      ⊢ iprop(((Ow c l ∗ semVal (cell c f j) 0 ∗ dmaPay m ρ c f j) -∗ Runs c (k ⟨⟩) Q)
          -∗ Runs c (.op (.waitDma2 sem src dst h₁ h₂) k) Q) := by
  subst hs
  unfold Ow
  iintro ⟨#HR, #Hlev, Hc, ⟨%W, HO⟩, Hat⟩ Hk
  iapply (Rounds.wp_wait_rest_token 𝒱₀ ER (kRd m ρ) (c : Thread nD τ) none (κ := K (c, some (f, j)))
      (wpE_waitDma2_eq 𝒱₀ (c : Thread nD τ) none Set.univ) (Set.mem_univ _) () (O := owe c l) (W := W) (R := 0) (m := 0) (T := ∅)
      (by rw [Nat.zero_add, expect_cell m ρ c f j, hN])) $$ [Hc HO Hat]
  · rw [hN]
    isplitr; · iapply (records_inv m ρ K (c, some (f, j))); iexact HR
    isplitl [Hc]; · iexact Hc
    isplitl [HO]; · iexact HO
    isplitr; · iapply (mayWait c (.dma (fS f j)) l hl); iexact Hlev
    iexact Hat
  iintro ⟨HO, Hat, -, Hpay⟩
  imod (Rounds.cell_close ER (kRd m ρ) (Set.mem_univ (K (c, some (f, j)))) (fun h => h) (R := 0 + 1) (duties_later m ρ (cell c f j))) $$ [Hat] with Hz
  · isplitr; · iapply (records_inv m ρ K (c, some (f, j))); iexact HR
    iexact Hat
  ihave Hp := (Entails.of_eq (rest_cell m ρ c f j)) $$ Hpay
  iapply Hk
  isplitl [HO]; · iexists _; iexact HO
  isplitl [Hz]; · iexact Hz
  iexact Hp

/-! ## The copies -/

/-- A copy from family `f` here to family `f'` at `nxt j c`, for any ends whose elements make the two payloads. -/
theorem step_send (c n : Dev nD) (f f' : Fin 4) (j : Fin 3) (hn : n = nxt j c) {sS sR : DmaSem sig} (hS : sS = fS f j) (hR : sR = fS f' j)
    (l : List Pay) {src dst : Memref sig .tc .vmem S64x256 .f32} {hsc : dst.view.ref.isScScratch = false}
    {hsrc : src.view.WordExact} {hdst : dst.view.WordExact}
    {hsem : DmaTarget.Typed .vmem (.dma sR) (.remote (Dev.tc n : Thread nD τ) dst (.dma sS) hsc)}
    (hN : dst.view.dmaCredit = N) (q : PosShare TreeShare) (fs : Buf (Elt F) (src.view.loc (c : Thread nD τ)))
    (fd : Buf (Elt F) (dst.view.loc (nxt j c : Thread nD τ)))
    (h₁ : (src.view.loc (c : Thread nD τ) ↦[src.view.set]{q} fs) ⊢ dmaPay m ρ c f j)
    (h₂ : (dst.view.loc (nxt j c : Thread nD τ) ↦[dst.view.set]{fullShare} dst.view.write (Elt F) fd (src.view.read (Elt F) fs) Finset.univ)
      ⊢ dmaPay m ρ (nxt j c) f' j)
    {α : Type} {Q : α → sProp 𝕄} {k : PUnit → Prog (TpuEff nD τ sig (Elt F) Λ₀ .tc) α} :
    iprop(records m ρ K ∗ Ow c ((j, some (f', j)) :: l)
        ∗ (src.view.loc (c : Thread nD τ) ↦[src.view.set]{q} fs) ∗ (dst.view.loc (nxt j c : Thread nD τ) ↦[dst.view.set]{fullShare} fd)
        ∗ dutyTok ER (cell c f j) 0 0 ∗ dutyTok ER (cell (nxt j c) f' j) 0 0)
      ⊢ iprop(((cred (tallyAt (cell c f j) () N) ∗ Ow c l) -∗ Runs c (k ⟨⟩) Q)
          -∗ Runs c (.op (.enqueueDma src (.remote (Dev.tc n : Thread nD τ) dst (.dma sS) hsc) (.dma sR) hsrc hdst hsem) k) Q) := by
  subst hn hS hR
  unfold Ow
  iintro ⟨#HR, ⟨%W, HO⟩, Hs, Hd, Ht₁, Ht₂⟩ Hk
  iapply (Rounds.wp_send_pointsTo 𝒱₀ ER (kRd m ρ) (c : Thread nD τ) none (κ₁ := K (c, some (f, j))) (κ₂ := K (nxt j c, some (f', j)))
    (sS := .dma (fS f j)) (sem := .dma (fS f' j)) (r₁ := 0) (r₂ := 0) (d₁ := 0) (d₂ := 0) (fs := fs) (fd := fd) (q := q)
    (by rw [duties_cell m ρ c f j]; exact Finset.mem_singleton_self _) (by rw [duties_cell m ρ (nxt j c) f' j]; exact Finset.mem_singleton_self _)
    () () N hN rfl rfl (owe c l) rfl (W := W)
    (by rw [payload_cell m ρ c f j]; exact h₁) (by rw [payload_cell m ρ (nxt j c) f' j]; exact h₂)) $$ [HO Hs Hd Ht₁ Ht₂]
  · isplitr; · iapply (records_inv m ρ K (c, some (f, j))); iexact HR
    isplitr; · iapply (records_inv m ρ K (nxt j c, some (f', j))); iexact HR
    isplitl [Hs]; · iexact Hs
    isplitl [Hd]; · iexact Hd
    isplitl [HO]; · iexact HO
    isplitl [Ht₁]; · iexact Ht₁
    isplitr; · iapply (records_reached m ρ K (c, some (f, j))); iexact HR
    isplitl [Ht₂]; · iexact Ht₂
    iapply (records_reached m ρ K (nxt j c, some (f', j))); iexact HR
  iintro ⟨Hc, HO⟩
  iapply Hk
  isplitl [Hc]; · iexact Hc
  iexists W; iexact HO

/-- Rectangles at equal offsets place an index alike. -/
theorem unit_emb_congr {s : Shape} {off off' size : Fin s.rank → Nat} (h : off = off') (p : ∀ a, off a + size a ≤ s.size a)
    (p' : ∀ a, off' a + size a ≤ s.size a) (y : (Rect.unit off size p).shape.Idx) :
    (Rect.unit off size p).emb y = (Rect.unit off' size p').emb y := by
  subst h; rfl

/-- What the first phase's `j`-th copy leaves in its slot. -/
theorem landed_rs (c : Dev nD) (j : Fin 3) (fd : (cc0_scratch0 : Ref sig .tc).ty.Contents (Elt F)) :
    ∀ i ∈ (slotM rsM j).view.set, (slotM rsM j).view.write (Elt F) fd ((srcM c j).view.read (Elt F) (xstg m ρ c)) Finset.univ i
      = rsAll m ρ (nxt j c) i := by
  intro i hi
  obtain ⟨y, -, rfl⟩ := Finset.mem_map.mp hi
  rw [View.write_emb_of_mem _ _ (Finset.mem_univ y)]
  show xstg m ρ c ((srcM c j).view.emb y) = xstg m ρ (prv (((slotM rsM j).view.emb y : S3x64x256.Idx) 0) (nxt j c)) ((rowR (nxt j c)).emb (drop ((slotM rsM j).view.emb y)))
  rw [slot_emb rsM j y]
  show _ = xstg m ρ (prv (((slotR j).emb (Fin.cons ⟨0, Nat.one_pos⟩ y) : S3x64x256.Idx) 0) (nxt j c)) ((rowR (nxt j c)).emb (drop ((slotR j).emb (Fin.cons ⟨0, Nat.one_pos⟩ y))))
  rw [slotR_zero, slotR_drop, prv_nxt]
  have h : (Rect.unit (s := S256x256) (k0_off1 c (BitVec.ofNat 32 (1 + j.val))) S64x256.size (k0_off1_inb c j)).emb y = (rowR (nxt j c)).emb y :=
    unit_emb_congr (s := S256x256) (size := S64x256.size) (off1_eq c j) (k0_off1_inb c j) (row_inb (nxt j c)) y
  exact congrArg (xstg m ρ c) h

/-- What the second phase's `j`-th copy leaves in its slot. -/
theorem landed_ag (c : Dev nD) (j : Fin 3) (fd : (cc0_scratch1 : Ref sig .tc).ty.Contents (Elt F)) :
    ∀ i ∈ (slotM agM j).view.set, (slotM agM j).view.write (Elt F) fd (redM.view.read (Elt F) (red m ρ c)) Finset.univ i
      = agAll m ρ (nxt j c) i := by
  intro i hi
  obtain ⟨y, -, rfl⟩ := Finset.mem_map.mp hi
  rw [View.write_emb_of_mem _ _ (Finset.mem_univ y)]
  show red m ρ c y = red m ρ (prv (((slotM agM j).view.emb y : S3x64x256.Idx) 0) (nxt j c)) (drop ((slotM agM j).view.emb y))
  rw [slot_emb agM j y]
  show _ = red m ρ (prv (((slotR j).emb (Fin.cons ⟨0, Nat.one_pos⟩ y) : S3x64x256.Idx) 0) (nxt j c)) (drop ((slotR j).emb (Fin.cons ⟨0, Nat.one_pos⟩ y)))
  rw [slotR_zero, slotR_drop, prv_nxt]

/-- The first phase's `j`-th copy. -/
theorem step_rs (c n : Dev nD) (j : Fin 3) (hn : n = nxt j c) {sS sR : DmaSem sig} (hS : sS = fS 0 j) (hR : sR = fS 1 j)
    (l : List Pay) {src dst : Memref sig .tc .vmem S64x256 .f32} (hs : src = srcM c j) (hd : dst = slotM rsM j)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(records m ρ K ∗ Ow c ((j, some (1, j)) :: l) ∗ xRow m ρ c (nxt j c) ∗ (∃ f, rsSlot (nxt j c) j f)
        ∗ dutyTok ER (cell c 0 j) 0 0 ∗ dutyTok ER (cell (nxt j c) 1 j) 0 0)
      ⊢ iprop(((cred (tallyAt (cell c 0 j) () N) ∗ Ow c l) -∗ Runs c (k ⟨⟩) Q)
          -∗ Runs c (.op (.enqueueDma src (.remote (Dev.tc n : Thread nD τ) dst (.dma sS) hsc) (.dma sR) hsrc hdst hsem) k) Q) := by
  subst hs hd
  iintro ⟨#HR, HO, Hs, ⟨%fd, Hd⟩, Ht₁, Ht₂⟩
  iapply (step_send m ρ K c n 0 1 j hn hS hR l (src := srcM c j) (dst := slotM rsM j) rfl fullShare (xstg m ρ c) fd
    (by rw [src_set]; exact BI.Entails.refl _)
    (by rw [pointsTo_congr (landed_rs m ρ c j fd), rs_set]; exact BI.Entails.refl _))
  isplitr; · iexact HR
  isplitl [HO]; · iexact HO
  isplitl [Hs]; · rw [src_set]; unfold xRow; iexact Hs
  isplitl [Hd]; · rw [rs_set]; unfold rsSlot; iexact Hd
  isplitl [Ht₁]; · iexact Ht₁
  iexact Ht₂

/-- The second phase's `j`-th copy. -/
theorem step_ag (c n : Dev nD) (j : Fin 3) (hn : n = nxt j c) {sS sR : DmaSem sig} (hS : sS = fS 2 j) (hR : sR = fS 3 j)
    (l : List Pay) {dst : Memref sig .tc .vmem S64x256 .f32} (hd : dst = slotM agM j)
    {hsc : dst.view.ref.isScScratch = false} {hsrc : redM.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(records m ρ K ∗ Ow c ((j, some (3, j)) :: l) ∗ redPart m ρ c (shr j) ∗ (∃ f, agSlot (nxt j c) j f)
        ∗ dutyTok ER (cell c 2 j) 0 0 ∗ dutyTok ER (cell (nxt j c) 3 j) 0 0)
      ⊢ iprop(((cred (tallyAt (cell c 2 j) () N) ∗ Ow c l) -∗ Runs c (k ⟨⟩) Q)
          -∗ Runs c (.op (.enqueueDma redM (.remote (Dev.tc n : Thread nD τ) dst (.dma sS) hsc) (.dma sR) hsrc hdst hsem) k) Q) := by
  subst hd
  iintro ⟨#HR, HO, Hs, ⟨%fd, Hd⟩, Ht₁, Ht₂⟩
  iapply (step_send m ρ K c n 2 3 j hn hS hR l (src := redM) (dst := slotM agM j) rfl (shr j) (red m ρ c) fd
    (by rw [red_set]; exact BI.Entails.refl _)
    (by rw [pointsTo_congr (landed_ag m ρ c j fd), ag_set]; exact BI.Entails.refl _))
  isplitr; · iexact HR
  isplitl [HO]; · iexact HO
  isplitl [Hs]; · rw [red_set]; unfold redPart; iexact Hs
  isplitl [Hd]; · rw [ag_set]; unfold agSlot; iexact Hd
  isplitl [Ht₁]; · iexact Ht₁
  iexact Ht₂

end Cert.KernelIdealProof

end
-- ==== Proof.KernelIdealBody.lean ====
/-
# The body of one device

The body runs effect by effect, from the scratch buffers at any contents and the staged array, to the result buffer
holding every device's sum and every semaphore back at zero.
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers in pieces -/

omit [FloatOps F] in
theorem sep3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem sep4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem slot_disjoint (j j' : Fin 3) (h : j ≠ j') : Disjoint (slotSet j) (slotSet j') :=
  Ring.lead_disjoint (s := S3x64x256) (NB := 3) 0 1 (fun j => ![j.val, 0, 0]) S1x64x256.size slot_inb (fun j => by simp) rfl j j' h
theorem slot_cover : Finset.univ.biUnion slotSet = Finset.univ :=
  Ring.lead_cover (s := S3x64x256) (NB := 3) 0 1 (fun j => ![j.val, 0, 0]) S1x64x256.size slot_inb (fun j => by simp)
    (by decide) rfl (by decide) rfl
theorem row_disjoint (d d' : Fin 4) (h : d ≠ d') : Disjoint (rowSet d) (rowSet d') :=
  Ring.lead_disjoint (s := S256x256) (NB := 4) 0 64 (fun d => rowOff d) S64x256.size row_inb (fun d => rfl) rfl d d' h
theorem row_cover : (Finset.univ : Finset (Fin 4)).biUnion (fun d => rowSet d) = Finset.univ :=
  Ring.lead_cover (s := S256x256) (NB := 4) 0 64 (fun d => rowOff d) S64x256.size row_inb (fun d => rfl)
    (by decide) rfl (by decide) rfl

/-- A receive buffer held whole is its three slots. -/
theorem rs_slots (c : Dev nD) (f : (cc0_scratch0 : Ref sig .tc).ty.Contents (Elt F)) :
    (((c : Thread nD τ).loc cc0_scratch0) ↦{fullShare} f : sProp 𝕄) = iprop(rsSlot c 0 f ∗ rsSlot c 1 f ∗ rsSlot c 2 f) :=
  (Ring.pointsTo_blocks (ℓ := (c : Thread nD τ).loc cc0_scratch0) slotSet slot_disjoint slot_cover f).trans (sep3 fun j => rsSlot c j f)
theorem ag_slots (c : Dev nD) (f : (cc0_scratch1 : Ref sig .tc).ty.Contents (Elt F)) :
    (((c : Thread nD τ).loc cc0_scratch1) ↦{fullShare} f : sProp 𝕄) = iprop(agSlot c 0 f ∗ agSlot c 1 f ∗ agSlot c 2 f) :=
  (Ring.pointsTo_blocks (ℓ := (c : Thread nD τ).loc cc0_scratch1) slotSet slot_disjoint slot_cover f).trans (sep3 fun j => agSlot c j f)
/-- The staged array held whole is its own rows and those of the three other devices. -/
theorem x_rows (c : Dev nD) :
    (((c : Thread nD τ).loc cc0_stg0_0) ↦{fullShare} xstg m ρ c : sProp 𝕄)
      = iprop(xRow m ρ c c ∗ xRow m ρ c (nxt 0 c) ∗ xRow m ρ c (nxt 1 c) ∗ xRow m ρ c (nxt 2 c)) := by
  have h1 := Ring.pointsTo_blocks (Ix := Unit) (Name := ℕ) (U := UU) (Lvl := ℕ) (ℓ := (c : Thread nD τ).loc cc0_stg0_0) (q := fullShare) (fun d : Fin 4 => rowSet d) row_disjoint row_cover (xstg m ρ c)
  have h2 := bigSep_univ_equiv (Equiv.ofBijective (place c) (place_bij c)) (fun d : Fin 4 => xRow m ρ c d)
  have h3 := sep4 (fun k : Fin 4 => xRow m ρ c (place c k))
  refine h1.trans (h2.trans (h3.trans ?_))
  rw [place_zero]; rfl
/-- The sum held whole is the three shares its copies read. -/
theorem red_parts (c : Dev nD) :
    (((c : Thread nD τ).loc cc0_scratch2) ↦{fullShare} red m ρ c : sProp 𝕄)
      ⊣⊢ iprop(redPart m ρ c (shr 0) ∗ redPart m ρ c (shr 1) ∗ redPart m ρ c (shr 2)) := by
  have h1 := pointsTo_share (Ix := Unit) (Name := ℕ) (U := UU) (Lvl := ℕ) (ℓ := (c : Thread nD τ).loc cc0_scratch2) (I := Finset.univ) (f := red m ρ c)
    (PosShare.mem_left_op_right fullShare)
  have h2 := pointsTo_share (Ix := Unit) (Name := ℕ) (U := UU) (Lvl := ℕ) (ℓ := (c : Thread nD τ).loc cc0_scratch2) (I := Finset.univ) (f := red m ρ c)
    (PosShare.mem_left_op_right fullShare.right)
  exact ⟨h1.1.trans (sep_mono_right h2.1), (sep_mono_right h2.2).trans h1.2⟩

omit [FloatOps F] in
/-- What the barrier's duty `rev i` hands over: slot `i` of both receive buffers of `nxt i c`. -/
theorem barPay_at (c : Dev nD) (i : Fin 3) :
    (barPay (F := F) c (rev i)) = iprop((∃ f, rsSlot (nxt i c) i f) ∗ ∃ f, agSlot (nxt i c) i f) := by
  unfold barPay prv; rw [rev_rev]

theorem pay_0 (c : Dev nD) (j : Fin 3) : dmaPay m ρ c 0 j ⊢ xRow m ρ c (nxt j c) := BI.Entails.refl _
theorem pay_1 (c : Dev nD) (j : Fin 3) : dmaPay m ρ c 1 j ⊢ rsSlot c j (rsAll m ρ c) := BI.Entails.refl _
theorem pay_2 (c : Dev nD) (j : Fin 3) : dmaPay m ρ c 2 j ⊢ redPart m ρ c (shr j) := BI.Entails.refl _
theorem pay_3 (c : Dev nD) (j : Fin 3) : dmaPay m ρ c 3 j ⊢ agSlot c j (agAll m ρ c) := BI.Entails.refl _

/-! ## The loads and the stores -/

theorem hz : (![0, 0] : Fin 2 → Nat) = fun _ => 0 := funext fun a => by fin_cases a <;> rfl

abbrev redR : Rect S64x256 := Rect.unit (s := S64x256) ![0, 0] S64x256.size inb_S64x256_S64x256_0_0

theorem step_ldx (c : Dev nD) {hl : xM.view.LoadsAt (Rect.unit (s := S256x256) (k0_off2 c) S64x256.size (k0_off2_inb c)).toLoadRect}
    {α : Type} {Q : α → sProp 𝕄} {k : Vec F S64x256 .f32 → Prog (TpuEff nD τ sig (Elt F) Λ₀ .tc) α} :
    xRow m ρ c c ⊢ iprop((xRow m ρ c c -∗ Runs c (k (xRd m ρ c)) Q) -∗ Runs c
      (.op (.load xM (Rect.unit (s := S256x256) (k0_off2 c) S64x256.size (k0_off2_inb c)).toLoadRect hl) k) Q) := by
  unfold xRow
  exact wp_load_rect 𝒱₀ (c : Thread nD τ) none Set.univ (m := xM) (r := Rect.unit (s := S256x256) (k0_off2 c) S64x256.size (k0_off2_inb c))
    (S := rowSet c) (q := fullShare) (f := xstg m ρ c)
    (by
      refine le_of_eq ((View.set_slice_whole _ _).trans ?_)
      exact congrArg (fun r : Rect S256x256 => r.set) (Rect.unit_congr (off2_eq c) _ _))

theorem step_ldrs (c : Dev nD) (j : Fin 3) {hl : rsM.view.LoadsAt (slotR j).toLoadRect}
    {α : Type} {Q : α → sProp 𝕄} {k : Vec F S1x64x256 .f32 → Prog (TpuEff nD τ sig (Elt F) Λ₀ .tc) α} :
    rsSlot c j (rsAll m ρ c) ⊢ iprop((rsSlot c j (rsAll m ρ c) -∗ Runs c (k (rsRd m ρ c j)) Q) -∗ Runs c
      (.op (.load rsM (slotR j).toLoadRect hl) k) Q) := by
  unfold rsSlot
  exact wp_load_rect 𝒱₀ (c : Thread nD τ) none Set.univ (m := rsM) (r := slotR j)
    (S := slotSet j) (q := fullShare) (f := rsAll m ρ c) (le_of_eq (View.set_slice_whole _ _))

abbrev agRd (c : Dev nD) (j : Fin 3) : Vec F S1x64x256 .f32 :=
  agM.view.readAt (Elt F) (slotR j).toLoadRect (agAll m ρ c)

theorem step_ldag (c : Dev nD) (j : Fin 3) {hl : agM.view.LoadsAt (slotR j).toLoadRect}
    {α : Type} {Q : α → sProp 𝕄} {k : Vec F S1x64x256 .f32 → Prog (TpuEff nD τ sig (Elt F) Λ₀ .tc) α} :
    agSlot c j (agAll m ρ c) ⊢ iprop((agSlot c j (agAll m ρ c) -∗ Runs c (k (agRd m ρ c j)) Q) -∗ Runs c
      (.op (.load agM (slotR j).toLoadRect hl) k) Q) := by
  unfold agSlot
  exact wp_load_rect 𝒱₀ (c : Thread nD τ) none Set.univ (m := agM) (r := slotR j)
    (S := slotSet j) (q := fullShare) (f := agAll m ρ c) (le_of_eq (View.set_slice_whole _ _))

theorem red_read (c : Dev nD) (y : S64x256.Idx) : redM.view.readAt (Elt F) redR.toLoadRect (red m ρ c) y = red m ρ c y :=
  congrFun (Memref.readAt_unit_zero (Elt F) cc0_scratch2 hz inb_S64x256_S64x256_0_0 (red m ρ c)) y

/-- What the second phase's slot `j` reads, its leading axis dropped: the sum of `prv j c`. -/
theorem agRd_cast (c : Dev nD) (j : Fin 3) (y : S64x256.Idx) :
    shapeCast S64x256 (agRd m ρ c j) shapeCasts_S1x64x256_S64x256 y = red m ρ (prv j c) y := by
  show agAll m ρ c ((slotR j).emb (Shape.reshapeEquiv shapeCasts_S1x64x256_S64x256 y)) = _
  rw [show Shape.reshapeEquiv shapeCasts_S1x64x256_S64x256 y = (Fin.cons ⟨0, Nat.one_pos⟩ y : S1x64x256.Idx) from Shape.reshapeEquiv_cons_one _ y]
  show red m ρ (prv (((slotR j).emb (Fin.cons ⟨0, Nat.one_pos⟩ y) : S3x64x256.Idx) 0) c) (drop ((slotR j).emb (Fin.cons ⟨0, Nat.one_pos⟩ y))) = _
  rw [slotR_zero, slotR_drop]

theorem row_emb (i : S256x256.Idx) : (rowR (rowDev i)).emb (rowIn i) = i := by
  funext a
  refine Fin.ext ?_
  fin_cases a
  · show 64 * ((i 0).val / 64) + 1 * ((i 0).val % 64) = (i 0).val; omega
  · show 0 + 1 * (i 1).val = (i 1).val; omega
theorem rowDev_emb (d : Dev nD) (y : S64x256.Idx) : rowDev ((rowR d).emb y) = d := by
  refine Fin.ext ?_
  show (64 * d.val + 1 * (y 0).val) / 64 = d.val
  have h : (y 0).val < 64 := (y 0).isLt
  omega

/-- A store of device `d`'s sum to its rows of the result buffer: the result there, what was there elsewhere. -/
theorem store_row (d : Dev nD) {off : Fin 2 → Nat} (ho : off = rowOff d) (inb : ∀ a, off a + S64x256.size a ≤ S256x256.size a)
    (f : (cc0_stg1_0 : Ref sig .tc).ty.Contents (Elt F)) (w : Vec F S64x256 .f32) (hw : ∀ y, w y = red m ρ d y) (i : S256x256.Idx) :
    (oM.access (Rect.unit (s := S256x256) off S64x256.size inb)).write (Elt F) f w Finset.univ i
      = if rowDev i = d then outAll m ρ i else f i := by
  subst ho
  by_cases h : rowDev i = d
  · rw [if_pos h]
    subst h
    have hi : (oM.access (rowR (rowDev i))).emb (rowIn i) = i := row_emb i
    have hwr := View.write_emb_of_mem (v := oM.access (rowR (rowDev i))) (Val := Elt F) f w (M := Finset.univ) (x := rowIn i) (Finset.mem_univ _)
    rw [hi] at hwr
    exact hwr.trans (hw _)
  · rw [if_neg h]
    refine View.write_of_not_mem _ _ _ fun hm => h ?_
    obtain ⟨y, -, rfl⟩ := Finset.mem_map.mp hm
    exact rowDev_emb d y

theorem off3_1 (c : Dev nD) : k0_off3 c 1#32 = rowOff (prv 0 c) := off3_eq c 0
theorem off3_2 (c : Dev nD) : k0_off3 c 2#32 = rowOff (prv 1 c) := off3_eq c 1
theorem off3_3 (c : Dev nD) : k0_off3 c 3#32 = rowOff (prv 2 c) := off3_eq c 2
theorem four_devs (c d : Dev nD) : d = c ∨ d = prv 0 c ∨ d = prv 1 c ∨ d = prv 2 c := by revert c d; decide

/-- The four stores fill the result buffer. -/
theorem store_all (c : Dev nD) (f : (cc0_stg1_0 : Ref sig .tc).ty.Contents (Elt F))
    {w₀ w₁ w₂ w₃ : Vec F S64x256 .f32} (h₀ : ∀ y, w₀ y = red m ρ c y) (h₁ : ∀ y, w₁ y = red m ρ (prv 0 c) y)
    (h₂ : ∀ y, w₂ y = red m ρ (prv 1 c) y) (h₃ : ∀ y, w₃ y = red m ρ (prv 2 c) y) :
    (oM.access (Rect.unit (s := S256x256) (k0_off3 c 3#32) S64x256.size (k0_off3_inb c 2))).write (Elt F)
      ((oM.access (Rect.unit (s := S256x256) (k0_off3 c 2#32) S64x256.size (k0_off3_inb c 1))).write (Elt F)
        ((oM.access (Rect.unit (s := S256x256) (k0_off3 c 1#32) S64x256.size (k0_off3_inb c 0))).write (Elt F)
          ((oM.access (Rect.unit (s := S256x256) (k0_off2 c) S64x256.size (k0_off2_inb c))).write (Elt F) f w₀ Finset.univ)
          w₁ Finset.univ) w₂ Finset.univ) w₃ Finset.univ = outAll m ρ := by
  funext i
  rw [store_row m ρ (prv 2 c) (off3_3 c) _ _ _ h₃, store_row m ρ (prv 1 c) (off3_2 c) _ _ _ h₂,
    store_row m ρ (prv 0 c) (off3_1 c) _ _ _ h₁, store_row m ρ c (off2_eq c) _ _ _ h₀]
  split_ifs with a b d e
  · rfl
  · rfl
  · rfl
  · rfl
  · exact absurd (four_devs c (rowDev i)) (by simp [a, b, d, e])

/-! ## The pipeline's proof data -/

def t₀ : Fin cfg0.N := t0_0
theorem fin_N (t : Fin cfg0.N) : t = t₀ := fin_N0 t

/-- The duty tokens, named by the cell's family and the duty: the barrier's three, one of each other cell. -/
abbrev TK : Type := Option (Fin 4) × Fin 3
def tokOf (ct : Dev nD × TK) : GSem nD τ sig × ℕ × Fin 3 := match ct.2 with
  | (none, j) => (barCell ct.1, 0, j) | (some f, j) => (cell ct.1 f j, 0, 0)
/-- Whose cell it is that device `c` pays: its own send cells, and the barrier and the receive cells of another. -/
def payee : TK → Dev nD ≃ Dev nD
  | (none, j) | (some 1, j) | (some 3, j) => rot j
  | (some _, _) => Equiv.refl _
def tok (c : Dev nD) (t : TK) : sProp 𝕄 := dutyTok ER (tokOf (c, t)).1 (tokOf (c, t)).2.1 (tokOf (c, t)).2.2
/-- The tokens device `c` pays with. -/
def payToks (c : Dev nD) : sProp 𝕄 := bigSep Finset.univ fun t : TK => tok (payee t c) t

/-- Every cell's invariant; device `c`'s positions on its own cells; the tokens it pays with. -/
def ghost (K : Dev nD × CK → ℕ) (c : Dev nD) : sProp 𝕄 :=
  iprop(records m ρ K ∗ (bigSep Finset.univ fun k : CK => atPos ER (kcell (c, k)) 0 ∅ 0) ∗ payToks c)

/-- The credit the others' payments give device `c`: its barrier's three units, and its receive cells'. -/
def creds (c : Dev nD) : sProp 𝕄 :=
  iprop(cred (tallyAt (barCell c) () 3) ∗ (bigSep Finset.univ fun j : Fin 3 => cred (tallyAt (cell c 1 j) () N))
    ∗ bigSep Finset.univ fun j : Fin 3 => cred (tallyAt (cell c 3 j) () N))

def start (c : Dev nD) : sProp 𝕄 := iprop((∃ K, ghost m ρ K c) ∗ creds c ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scratch c)
/-- At the end: the scratch buffers, and every cell's counter at zero. -/
def Φ₁ (c : Dev nD) : sProp 𝕄 := iprop(scratch c ∗ bigSep Finset.univ fun k : CK => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAll m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A separating conjunction over a device's cells, written out. -/
theorem sepCK (Φ : CK → sProp 𝕄) : bigSep Finset.univ Φ = iprop(Φ none
    ∗ Φ (some (0, 0)) ∗ Φ (some (0, 1)) ∗ Φ (some (0, 2)) ∗ Φ (some (1, 0)) ∗ Φ (some (1, 1)) ∗ Φ (some (1, 2))
    ∗ Φ (some (2, 0)) ∗ Φ (some (2, 1)) ∗ Φ (some (2, 2)) ∗ Φ (some (3, 0)) ∗ Φ (some (3, 1)) ∗ Φ (some (3, 2))) :=
  bigSep_univ_eq_bigSepL [none, some (0, 0), some (0, 1), some (0, 2), some (1, 0), some (1, 1), some (1, 2),
    some (2, 0), some (2, 1), some (2, 2), some (3, 0), some (3, 1), some (3, 2)] (by decide) (by decide) Φ

omit [FloatOps F] in
theorem payToks_eq (c : Dev nD) : (payToks c : sProp 𝕄) = iprop(
    (dutyTok ER (barCell (nxt 0 c)) 0 0 ∗ dutyTok ER (barCell (nxt 1 c)) 0 1 ∗ dutyTok ER (barCell (nxt 2 c)) 0 2)
    ∗ (dutyTok ER (cell c 0 0) 0 0 ∗ dutyTok ER (cell c 0 1) 0 0 ∗ dutyTok ER (cell c 0 2) 0 0)
    ∗ (dutyTok ER (cell (nxt 0 c) 1 0) 0 0 ∗ dutyTok ER (cell (nxt 1 c) 1 1) 0 0 ∗ dutyTok ER (cell (nxt 2 c) 1 2) 0 0)
    ∗ (dutyTok ER (cell c 2 0) 0 0 ∗ dutyTok ER (cell c 2 1) 0 0 ∗ dutyTok ER (cell c 2 2) 0 0)
    ∗ (dutyTok ER (cell (nxt 0 c) 3 0) 0 0 ∗ dutyTok ER (cell (nxt 1 c) 3 1) 0 0 ∗ dutyTok ER (cell (nxt 2 c) 3 2) 0 0)) := by
  unfold payToks
  rw [bigSep_univ_prod, bigSep_univ_eq_bigSepL [none, some 0, some 1, some 2, some 3] (by decide) (by decide)]
  simp only [bigSepL_cons_cons, bigSepL_singleton, sep3]
  rfl

/-! ## The body -/

section Body

variable (K : Dev nD × CK → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stored (c : Dev nD) {X : Buf (Elt F) ((c : Thread nD τ).loc cc0_stg1_0)} (h : X = outAll m ρ) :
    (((c : Thread nD τ).loc cc0_stg1_0) ↦{fullShare} X : sProp 𝕄) ⊢ stg c cc0_stg1_0 (outAll m ρ) := by
  iintro H
  iexists X
  isplitr; · (ipureintro; exact h)
  iexact H

def bodyPre (c : Dev nD) : sProp 𝕄 :=
  iprop(ghost m ρ K c ∗ creds c ∗ levAts L lv ∗ scratch c
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAll m ρ))

set_option maxHeartbeats 1000000 in
/-- The body, run one effect at a time in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold bodyPre ghost creds scratch
  simp only [payToks_eq, sepCK, sep3]
  iintro ⟨⟨⟨#HR, ⟨HaB, Ha00, Ha01, Ha02, Ha10, Ha11, Ha12, Ha20, Ha21, Ha22, Ha30, Ha31, Ha32⟩, ⟨⟨HtB0, HtB1, HtB2⟩, ⟨Ht00, Ht01, Ht02⟩, ⟨Ht10, Ht11, Ht12⟩, ⟨Ht20, Ht21, Ht22⟩, ⟨Ht30, Ht31, Ht32⟩⟩⟩,
    ⟨HcB, ⟨Hc10, Hc11, Hc12⟩, ⟨Hc30, Hc31, Hc32⟩⟩, #Hlev, ⟨⟨%fr, Hrs⟩, ⟨%fa, Hag⟩, ⟨%fd, Hred⟩⟩,
    Ho, ⟨%d0, %g0, %hg0, Hx⟩, ⟨%d1, %g1, %hg1, Hout⟩⟩, Hk⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = owe c pays from rfl]
  ihave HO := (show owes (c : Thread nD τ) (owe c pays) W ⊢ Ow c pays from by unfold Ow; iintro H; iexists W; iexact H) $$ HO
  ihave Hrs := (Entails.of_eq (rs_slots (F := F) c fr)) $$ Hrs
  icases Hrs with ⟨Hr0, Hr1, Hr2⟩
  ihave Hag := (Entails.of_eq (ag_slots (F := F) c fa)) $$ Hag
  icases Hag with ⟨Hg0, Hg1, Hg2⟩
  ihave Hx := (Entails.of_eq (x_rows m ρ c)) $$ Hx
  icases Hx with ⟨Hxc, Hx0, Hx1, Hx2⟩
  -- the three signals, each handing a slot of both receive buffers to the device that will write it
  iapply (step_signal m ρ K c _ 0 (dev1_eq c) ((1, none) :: (2, none) :: pays₁)) $$ [HO HtB0 Hr2 Hg2]
  · isplitr; · iexact HR
    isplitl [HO]; · iexact HO
    isplitl [HtB0]; · iexact HtB0
    isplitl [Hr2]; · iexists fr; iexact Hr2
    iexists fa; iexact Hg2
  iintro HO
  iapply (step_signal m ρ K c _ 1 (dev2_eq c) ((2, none) :: pays₁)) $$ [HO HtB1 Hr1 Hg1]
  · isplitr; · iexact HR
    isplitl [HO]; · iexact HO
    isplitl [HtB1]; · iexact HtB1
    isplitl [Hr1]; · iexists fr; iexact Hr1
    iexists fa; iexact Hg1
  iintro HO
  iapply (step_signal m ρ K c _ 2 (dev3_eq c) pays₁) $$ [HO HtB2 Hr0 Hg0]
  · isplitr; · iexact HR
    isplitl [HO]; · iexact HO
    isplitl [HtB2]; · iexact HtB2
    isplitl [Hr0]; · iexists fr; iexact Hr0
    iexists fa; iexact Hg0
  iintro HO
  iapply (step_barrier m ρ K c pays₁ (by decide)) $$ [HcB HO HaB]
  · isplitr; · iexact HR
    isplitr; · iexact Hlev
    isplitl [HcB]; · iexact HcB
    isplitl [HO]; · iexact HO
    iexact HaB
  iintro ⟨HO, HzB, Hp2, Hp1, Hp0⟩
  ihave Hp0 := (show (barPay (F := F) c 2 : sProp 𝕄) ⊢ _ from Entails.of_eq (barPay_at (F := F) c 0)) $$ Hp0
  ihave Hp1 := (show (barPay (F := F) c 1 : sProp 𝕄) ⊢ _ from Entails.of_eq (barPay_at (F := F) c 1)) $$ Hp1
  ihave Hp2 := (show (barPay (F := F) c 0 : sProp 𝕄) ⊢ _ from Entails.of_eq (barPay_at (F := F) c 2)) $$ Hp2
  icases Hp0 with ⟨Hr0, Hg0⟩
  icases Hp1 with ⟨Hr1, Hg1⟩
  icases Hp2 with ⟨Hr2, Hg2⟩
  -- the first phase's copies
  iapply (step_rs m ρ K c _ 0 (dev4_eq c) rfl rfl ((1, some (1, 1)) :: (2, some (1, 2)) :: pays₂) rfl rfl) $$ [HO Hx0 Hr0 Ht00 Ht10]
  · isplitr; · iexact HR
    isplitl [HO]; · iexact HO
    isplitl [Hx0]; · iexact Hx0
    isplitl [Hr0]; · iexact Hr0
    isplitl [Ht00]; · iexact Ht00
    iexact Ht10
  iintro ⟨Hc00, HO⟩
  iapply (step_rs m ρ K c _ 1 (dev5_eq c) rfl rfl ((2, some (1, 2)) :: pays₂) rfl rfl) $$ [HO Hx1 Hr1 Ht01 Ht11]
  · isplitr; · iexact HR
    isplitl [HO]; · iexact HO
    isplitl [Hx1]; · iexact Hx1
    isplitl [Hr1]; · iexact Hr1
    isplitl [Ht01]; · iexact Ht01
    iexact Ht11
  iintro ⟨Hc01, HO⟩
  iapply (step_rs m ρ K c _ 2 (dev6_eq c) rfl rfl pays₂ rfl rfl) $$ [HO Hx2 Hr2 Ht02 Ht12]
  · isplitr; · iexact HR
    isplitl [HO]; · iexact HO
    isplitl [Hx2]; · iexact Hx2
    isplitl [Hr2]; · iexact Hr2
    isplitl [Ht02]; · iexact Ht02
    iexact Ht12
  iintro ⟨Hc02, HO⟩
  -- what the others sent has landed
  iapply (step_wait m ρ K c 1 0 (dst := slotM rsM 0) rfl pays₂ (by decide) rfl) $$ [Hc10 HO Ha10]
  · isplitr; · iexact HR
    isplitr; · iexact Hlev
    isplitl [Hc10]; · iexact Hc10
    isplitl [HO]; · iexact HO
    iexact Ha10
  iintro ⟨HO, Hz10, Hr0⟩
  ihave Hr0 := (pay_1 m ρ c 0) $$ Hr0
  iapply (step_wait m ρ K c 1 1 (dst := slotM rsM 1) rfl pays₂ (by decide) rfl) $$ [Hc11 HO Ha11]
  · isplitr; · iexact HR
    isplitr; · iexact Hlev
    isplitl [Hc11]; · iexact Hc11
    isplitl [HO]; · iexact HO
    iexact Ha11
  iintro ⟨HO, Hz11, Hr1⟩
  ihave Hr1 := (pay_1 m ρ c 1) $$ Hr1
  iapply (step_wait m ρ K c 1 2 (dst := slotM rsM 2) rfl pays₂ (by decide) rfl) $$ [Hc12 HO Ha12]
  · isplitr; · iexact HR
    isplitr; · iexact Hlev
    isplitl [Hc12]; · iexact Hc12
    isplitl [HO]; · iexact HO
    iexact Ha12
  iintro ⟨HO, Hz12, Hr2⟩
  ihave Hr2 := (pay_1 m ρ c 2) $$ Hr2
  -- the sum of the device's own rows
  iapply (step_ldx m ρ c) $$ Hxc; iintro Hxc
  iapply (step_ldrs m ρ c 0) $$ Hr0; iintro Hr0
  iapply (step_ldrs m ρ c 1) $$ Hr1; iintro Hr1
  iapply (step_ldrs m ρ c 2) $$ Hr2; iintro Hr2
  iapply (wp_load 𝒱₀ (c : Thread nD τ) none Set.univ (m := redM) (Finset.subset_univ _)) $$ Hred; iintro Hred
  iapply (wp_store 𝒱₀ (c : Thread nD τ) none Set.univ (m := redM) (r := redR) (Mk := Finset.univ) (Finset.subset_univ _)) $$ Hred; iintro Hred
  rw [show (redM.access redR).write (Elt F) fd (k0_pay1 (xRd m ρ c) (rsRd m ρ c 0) (rsRd m ρ c 1) (rsRd m ρ c 2)) Finset.univ = red m ρ c from
    Memref.write_access_unit_zero_univ (Elt F) cc0_scratch2 hz _ fd _]
  iapply (wp_load 𝒱₀ (c : Thread nD τ) none Set.univ (m := redM) (Finset.subset_univ _)) $$ Hred; iintro Hred
  iapply (wp_load 𝒱₀ (c : Thread nD τ) none Set.univ (m := oM) (Finset.subset_univ _)) $$ Hout; iintro Hout
  iapply (wp_store 𝒱₀ (c : Thread nD τ) none Set.univ (m := oM) (Mk := Finset.univ)
    (r := Rect.unit (s := S256x256) (k0_off2 c) S64x256.size (k0_off2_inb c)) (Finset.subset_univ _)) $$ Hout; iintro Hout
  ihave Hred := (red_parts m ρ c).1 $$ Hred
  icases Hred with ⟨Hd0, Hd1, Hd2⟩
  -- the second phase's copies
  iapply (step_ag m ρ K c _ 0 (dev7_eq c) rfl rfl ((1, some (3, 1)) :: (2, some (3, 2)) :: []) rfl) $$ [HO Hd0 Hg0 Ht20 Ht30]
  · isplitr; · iexact HR
    isplitl [HO]; · iexact HO
    isplitl [Hd0]; · iexact Hd0
    isplitl [Hg0]; · iexact Hg0
    isplitl [Ht20]; · iexact Ht20
    iexact Ht30
  iintro ⟨Hc20, HO⟩
  iapply (step_ag m ρ K c _ 1 (dev8_eq c) rfl rfl ((2, some (3, 2)) :: []) rfl) $$ [HO Hd1 Hg1 Ht21 Ht31]
  · isplitr; · iexact HR
    isplitl [HO]; · iexact HO
    isplitl [Hd1]; · iexact Hd1
    isplitl [Hg1]; · iexact Hg1
    isplitl [Ht21]; · iexact Ht21
    iexact Ht31
  iintro ⟨Hc21, HO⟩
  iapply (step_ag m ρ K c _ 2 (dev9_eq c) rfl rfl [] rfl) $$ [HO Hd2 Hg2 Ht22 Ht32]
  · isplitr; · iexact HR
    isplitl [HO]; · iexact HO
    isplitl [Hd2]; · iexact Hd2
    isplitl [Hg2]; · iexact Hg2
    isplitl [Ht22]; · iexact Ht22
    iexact Ht32
  iintro ⟨Hc22, HO⟩
  -- each device's sum as it lands, stored to its rows
  iapply (step_wait m ρ K c 3 0 (dst := slotM agM 0) rfl [] (by decide) rfl) $$ [Hc30 HO Ha30]
  · isplitr; · iexact HR
    isplitr; · iexact Hlev
    isplitl [Hc30]; · iexact Hc30
    isplitl [HO]; · iexact HO
    iexact Ha30
  iintro ⟨HO, Hz30, Hg0⟩
  ihave Hg0 := (pay_3 m ρ c 0) $$ Hg0
  iapply (step_ldag m ρ c 0) $$ Hg0; iintro Hg0
  iapply (wp_load 𝒱₀ (c : Thread nD τ) none Set.univ (m := oM) (Finset.subset_univ _)) $$ Hout; iintro Hout
  iapply (wp_store 𝒱₀ (c : Thread nD τ) none Set.univ (m := oM) (Mk := Finset.univ)
    (r := Rect.unit (s := S256x256) (k0_off3 c 1#32) S64x256.size (k0_off3_inb c 0)) (Finset.subset_univ _)) $$ Hout; iintro Hout
  iapply (step_wait m ρ K c 3 1 (dst := slotM agM 1) rfl [] (by decide) rfl) $$ [Hc31 HO Ha31]
  · isplitr; · iexact HR
    isplitr; · iexact Hlev
    isplitl [Hc31]; · iexact Hc31
    isplitl [HO]; · iexact HO
    iexact Ha31
  iintro ⟨HO, Hz31, Hg1⟩
  ihave Hg1 := (pay_3 m ρ c 1) $$ Hg1
  iapply (step_ldag m ρ c 1) $$ Hg1; iintro Hg1
  iapply (wp_load 𝒱₀ (c : Thread nD τ) none Set.univ (m := oM) (Finset.subset_univ _)) $$ Hout; iintro Hout
  iapply (wp_store 𝒱₀ (c : Thread nD τ) none Set.univ (m := oM) (Mk := Finset.univ)
    (r := Rect.unit (s := S256x256) (k0_off3 c 2#32) S64x256.size (k0_off3_inb c 1)) (Finset.subset_univ _)) $$ Hout; iintro Hout
  iapply (step_wait m ρ K c 3 2 (dst := slotM agM 2) rfl [] (by decide) rfl) $$ [Hc32 HO Ha32]
  · isplitr; · iexact HR
    isplitr; · iexact Hlev
    isplitl [Hc32]; · iexact Hc32
    isplitl [HO]; · iexact HO
    iexact Ha32
  iintro ⟨HO, Hz32, Hg2⟩
  ihave Hg2 := (pay_3 m ρ c 2) $$ Hg2
  iapply (step_ldag m ρ c 2) $$ Hg2; iintro Hg2
  iapply (wp_load 𝒱₀ (c : Thread nD τ) none Set.univ (m := oM) (Finset.subset_univ _)) $$ Hout; iintro Hout
  iapply (wp_store 𝒱₀ (c : Thread nD τ) none Set.univ (m := oM) (Mk := Finset.univ)
    (r := Rect.unit (s := S256x256) (k0_off3 c 3#32) S64x256.size (k0_off3_inb c 2)) (Finset.subset_univ _)) $$ Hout; iintro Hout
  -- the copies out have been read
  iapply (step_wait m ρ K c 0 0 (dst := srcM c 0) rfl [] (by decide) rfl) $$ [Hc00 HO Ha00]
  · isplitr; · iexact HR
    isplitr; · iexact Hlev
    isplitl [Hc00]; · iexact Hc00
    isplitl [HO]; · iexact HO
    iexact Ha00
  iintro ⟨HO, Hz00, Hx0⟩
  ihave Hx0 := (pay_0 m ρ c 0) $$ Hx0
  iapply (step_wait m ρ K c 0 1 (dst := srcM c 1) rfl [] (by decide) rfl) $$ [Hc01 HO Ha01]
  · isplitr; · iexact HR
    isplitr; · iexact Hlev
    isplitl [Hc01]; · iexact Hc01
    isplitl [HO]; · iexact HO
    iexact Ha01
  iintro ⟨HO, Hz01, Hx1⟩
  ihave Hx1 := (pay_0 m ρ c 1) $$ Hx1
  iapply (step_wait m ρ K c 0 2 (dst := srcM c 2) rfl [] (by decide) rfl) $$ [Hc02 HO Ha02]
  · isplitr; · iexact HR
    isplitr; · iexact Hlev
    isplitl [Hc02]; · iexact Hc02
    isplitl [HO]; · iexact HO
    iexact Ha02
  iintro ⟨HO, Hz02, Hx2⟩
  ihave Hx2 := (pay_0 m ρ c 2) $$ Hx2
  iapply (step_wait m ρ K c 2 0 (dst := redM) rfl [] (by decide) rfl) $$ [Hc20 HO Ha20]
  · isplitr; · iexact HR
    isplitr; · iexact Hlev
    isplitl [Hc20]; · iexact Hc20
    isplitl [HO]; · iexact HO
    iexact Ha20
  iintro ⟨HO, Hz20, Hd0⟩
  ihave Hd0 := (pay_2 m ρ c 0) $$ Hd0
  iapply (step_wait m ρ K c 2 1 (dst := redM) rfl [] (by decide) rfl) $$ [Hc21 HO Ha21]
  · isplitr; · iexact HR
    isplitr; · iexact Hlev
    isplitl [Hc21]; · iexact Hc21
    isplitl [HO]; · iexact HO
    iexact Ha21
  iintro ⟨HO, Hz21, Hd1⟩
  ihave Hd1 := (pay_2 m ρ c 1) $$ Hd1
  iapply (step_wait m ρ K c 2 2 (dst := redM) rfl [] (by decide) rfl) $$ [Hc22 HO Ha22]
  · isplitr; · iexact HR
    isplitr; · iexact Hlev
    isplitl [Hc22]; · iexact Hc22
    isplitl [HO]; · iexact HO
    iexact Ha22
  iintro ⟨HO, Hz22, Hd2⟩
  ihave Hd2 := (pay_2 m ρ c 2) $$ Hd2
  unfold Runs
  rw [wp_ret]; imodintro
  iapply Hk
  unfold bodyPost Φ₁ scratch Dat.owesAt Pipeline.owesWithin
  simp only [sepCK]
  rw [show (dats m ρ 0 c).owed t₀.succ = owe c [] from rfl]
  unfold Ow
  icases HO with ⟨%W', HO⟩
  isplitl [Hr0 Hr1 Hr2 Hg0 Hg1 Hg2 Hd0 Hd1 Hd2 HzB Hz00 Hz01 Hz02 Hz10 Hz11 Hz12 Hz20 Hz21 Hz22 Hz30 Hz31 Hz32]
  · isplitl [Hr0 Hr1 Hr2 Hg0 Hg1 Hg2 Hd0 Hd1 Hd2]
    · isplitl [Hr0 Hr1 Hr2]
      · iexists (rsAll m ρ c)
        iapply (Entails.of_eq (rs_slots (F := F) c (rsAll m ρ c)).symm)
        isplitl [Hr0]; · iexact Hr0
        isplitl [Hr1]; · iexact Hr1
        iexact Hr2
      isplitl [Hg0 Hg1 Hg2]
      · iexists (agAll m ρ c)
        iapply (Entails.of_eq (ag_slots (F := F) c (agAll m ρ c)).symm)
        isplitl [Hg0]; · iexact Hg0
        isplitl [Hg1]; · iexact Hg1
        iexact Hg2
      iexists (red m ρ c)
      iapply (red_parts m ρ c).2
      isplitl [Hd0]; · iexact Hd0
      isplitl [Hd1]; · iexact Hd1
      iexact Hd2
    isplitl [HzB]; · iexact HzB
    isplitl [Hz00]; · iexact Hz00
    isplitl [Hz01]; · iexact Hz01
    isplitl [Hz02]; · iexact Hz02
    isplitl [Hz10]; · iexact Hz10
    isplitl [Hz11]; · iexact Hz11
    isplitl [Hz12]; · iexact Hz12
    isplitl [Hz20]; · iexact Hz20
    isplitl [Hz21]; · iexact Hz21
    isplitl [Hz22]; · iexact Hz22
    isplitl [Hz30]; · iexact Hz30
    isplitl [Hz31]; · iexact Hz31
    iexact Hz32
  isplitl [HO]
  · iexists W'
    isplitr; · ipureintro; exact fun _ _ => Or.inl trivial
    iexact HO
  isplitl [Hxc Hx0 Hx1 Hx2]
  · iexists _; isplitr; · (ipureintro; rfl)
    iapply (Entails.of_eq (x_rows m ρ c).symm)
    isplitl [Hxc]; · iexact Hxc
    isplitl [Hx0]; · iexact Hx0
    isplitl [Hx1]; · iexact Hx1
    iexact Hx2
  iapply (stored m ρ c (store_all m ρ c g1 (red_read m ρ c)
      (agRd_cast m ρ c 0) (agRd_cast m ρ c 1) (agRd_cast m ρ c 2)))
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation of device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost m ρ c)
  unfold bodyPre' Φ₀ start
  iintro ⟨⟨⟨⟨%K, Hg⟩, Hc, Hl⟩, Hscr⟩, Ho, Hx, Hout⟩
  iapply (sound_body m ρ K c fun _ => bodyPost m ρ c)
  unfold bodyPre
  isplitr []
  · isplitl [Hg]; · iexact Hg
    isplitl [Hc]; · iexact Hc
    isplitl [Hl]; · iexact Hl
    isplitl [Hscr]; · iexact Hscr
    isplitl [Ho]; · iexact Ho
    isplitl [Hx] <;> iassumption
  · iintro H; iexact H

end Body

end Cert.KernelIdealProof

end
-- ==== Proof.KernelIdealLaunch.lean ====
/-
# The launch, and the run of the whole program

The launch allocates every cell's invariant, deals each device the tokens of the duties it pays and the credit that the
other devices owe it, and the run theorem follows from the body.
-/
module

public import proofs.«01_k».proof.Proof.KernelIdealBody
public import Idealize.ShloMosaic.Lib.Quiescent
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own semaphores: all but the barrier's. -/
abbrev osem : Fin 12 → SemLoc sig := fun i => .dma (⟨2 + i.val, by omega⟩ : Fin 14)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide +kernel

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def theCells : Finset (GSem nD τ sig) := Finset.univ.map ⟨kcell, kcell_injective⟩

/-- A token apart from its device. -/
def tokSem : TK → CK × Fin 3
  | (none, j) => (none, j)
  | (some f, j) => (some (f, j), 0)
theorem tokSem_injective : Function.Injective tokSem := by decide +kernel
theorem tokOf_eq (ct : Dev nD × TK) : tokOf ct = (kcell (ct.1, (tokSem ct.2).1), 0, (tokSem ct.2).2) := by
  obtain ⟨c, f | f, j⟩ := ct <;> rfl
theorem tokOf_injective : Function.Injective (tokOf : Dev nD × TK → GSem nD τ sig × ℕ × Fin 3) := by
  rintro ⟨c, t⟩ ⟨c', t'⟩ h
  rw [tokOf_eq, tokOf_eq] at h
  have h1 := kcell_injective (congrArg Prod.fst h)
  have h2 : (tokSem t).2 = (tokSem t').2 := congrArg (fun x => x.2.2) h
  have h3 : t = t' := tokSem_injective (Prod.ext (congrArg Prod.snd h1) h2)
  rw [h3, show c = c' from congrArg Prod.fst h1]
def theToks : Finset (GSem nD τ sig × ℕ × Fin 3) := Finset.univ.map ⟨tokOf, tokOf_injective⟩

def u₀ : UU :=
  (initOf (Pipeline.cells cfgs cellOf_inj) (Pipeline.launchToks cfgs cellOf_inj), initOf theCells theToks)

/-- The tokens of device `c`'s own cells. -/
def toks (c : Dev nD) : sProp 𝕄 := bigSep Finset.univ fun t : TK => tok c t
/-- Device `c`'s positions on its cells. -/
def posns (c : Dev nD) : sProp 𝕄 := bigSep Finset.univ fun k : CK => atPos ER (kcell (c, k)) 0 ∅ 0
def marks (c : Dev nD) : sProp 𝕄 := bigSep Finset.univ fun k : CK => reached ER (kcell (c, k)) 0

/-- What the launch deals device `c`, -/
def G (c : Dev nD) : sProp 𝕄 :=
  iprop((bigSep Finset.univ fun k : CK => roundState ER (kRd m ρ) (kcell (c, k)) 0) ∗ posns c ∗ marks c ∗ toks c)
/-- and what it starts from once the cells' invariants are known to all. -/
def G' (c : Dev nD) : sProp 𝕄 := iprop(∃ K, ghost m ρ K c)

theorem fund_cells : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : CK => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]; rfl
  iintro HX
  imod (Rounds.fund ER (kRd m ρ) theCells theToks) $$ HX with ⟨Hst, Hr, Hat, Htok⟩
  imodintro
  ihave Hst' := (Entails.of_eq (hX fun g => roundState ER (kRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posns marks; simp only [bigSep_sep']
  isplitl [Hst']; · iexact Hst'
  isplitl [Hat']; · iexact Hat'
  isplitl [Hr']; · iexact Hr'
  iexact Htok'

/-! ## The semaphores at zero -/

omit [FloatOps F] in
/-- The kernel's own semaphores and the barrier's are the cells. -/
theorem sems0 (c : Dev nD) :
    iprop(Pipeline.ownSems0 (Ix := Unit) (Name := ℕ) (U := UU) (Lvl := ℕ) (Val := Elt F) (τ := τ) osem c ∗ unscopedSems0 c)
      ⊣⊢ (bigSep Finset.univ fun k : CK => semVal (kcell (c, k)) 0 : sProp 𝕄) := by
  rw [Pipeline.ownSems0_eq_of_list c osem [0, 1, 2, 3, 4, 5, 6, 7, 8, 9, 10, 11] (by decide) (by decide), sepCK]
  unfold unscopedSems0; rw [bigSep_eq_bigSepL_of_eq [SemLoc.reg barS] (by decide) (by decide)]
  exact sep_comm

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (kRd m ρ) κ (kcell (c, k)))) ∗ posns c ∗ marks c ∗ toks c) := by
  unfold G
  iintro ⟨Hos, Hus, Hst, Hat⟩
  ihave Hv := (sems0 (F := F) c).1 $$ [Hos Hus]
  · isplitl [Hos] <;> iassumption
  imod (show iprop((bigSep Finset.univ fun k : CK => semVal (kcell (c, k)) 0) ∗ bigSep Finset.univ fun k : CK => roundState ER (kRd m ρ) (kcell (c, k)) 0)
      ⊢ (|={Set.univ}=> bigSep Finset.univ fun k : CK => iprop(∃ κ : ℕ, cellInv ER (kRd m ρ) κ (kcell (c, k))) : sProp 𝕄) from by
        rw [← bigSep_sep']
        exact (bigSep_mono fun k _ => (Rounds.body_intro ER (kRd m ρ) (kcell (c, k))).trans inv_alloc).trans (bigSep_fupd _ _)) $$ [Hv Hst] with Hinv
  · isplitl [Hv] <;> iassumption
  imodintro
  isplitl [Hinv]; · iexact Hinv
  iexact Hat

/-! ## The tokens dealt to those who pay them -/

omit [FloatOps F] in
theorem toks_dealt : (bigSep Finset.univ fun c : Dev nD => (toks c : sProp 𝕄)) ⊢ bigSep Finset.univ fun c : Dev nD => payToks c := by
  unfold toks payToks
  refine Entails.of_eq ((bigSep_univ_comm _).trans (Eq.trans ?_ (bigSep_univ_comm _)))
  exact bigSep_congr fun t _ => bigSep_univ_equiv (payee t) fun c => tok c t

theorem ghost_intro (K : Dev nD × CK → ℕ) (c : Dev nD) : iprop(records m ρ K ∗ posns c ∗ payToks c) ⊢ G' m ρ c := by
  unfold G' ghost posns
  iintro H; iexists K; iexact H

theorem regroup :
    (bigSep Finset.univ fun c : Dev nD => iprop((bigSep Finset.univ fun k : CK => iprop(∃ κ : ℕ, cellInv ER (kRd m ρ) κ (kcell (c, k))))
          ∗ posns c ∗ marks c ∗ toks c) : sProp 𝕄)
      ⊢ bigSep Finset.univ (G' m ρ) := by
  have hm : (bigSep Finset.univ fun c : Dev nD => (marks c : sProp 𝕄)) = bigSep Finset.univ fun ck : Dev nD × CK => reached ER (kcell ck) 0 :=
    (bigSep_univ_prod fun ck : Dev nD × CK => (reached ER (kcell ck) 0 : sProp 𝕄)).symm
  rw [bigSep_sep', bigSep_sep', bigSep_sep', hm, ← bigSep_univ_prod (fun ck : Dev nD × CK => iprop(∃ κ : ℕ, cellInv ER (kRd m ρ) κ (kcell ck)))]
  iintro ⟨HI, Hat, #HR, Htok⟩
  ihave HK := (BI.bigSep_exists_pi Finset.univ (fun (ck : Dev nD × CK) (κ : ℕ) => (cellInv ER (kRd m ρ) κ (kcell ck) : sProp 𝕄))) $$ HI
  icases HK with ⟨%K, #HI⟩
  ihave Htk := (toks_dealt (F := F)) $$ Htok
  iapply (show iprop(records m ρ K ∗ bigSep Finset.univ fun c : Dev nD => iprop(posns c ∗ payToks c)) ⊢ bigSep Finset.univ (G' m ρ) from
    (sep_mono_left (BI.bigSep_of_persistent Finset.univ (records m ρ K))).trans (by
      rw [← bigSep_sep']
      exact bigSep_mono fun c _ => ghost_intro m ρ K c))
  isplitr
  · unfold records; isplitl; · iexact HI
    iexact HR
  rw [bigSep_sep']
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem owe_at (d c : Dev nD) (k : CK) (l : List Pay) :
    owe d l (kcell (c, k)) () = (l.map fun p => if d = prv p.1 c then (if p.2 = k then amt p.2 else 0) else 0).sum := by
  induction l with
  | nil => rfl
  | cons p l ih =>
    unfold owe
    rw [Pi.add_apply, Finsupp.add_apply, ih, tallyAt_apply, List.map_cons, List.sum_cons, Nat.add_comm]
    congr 1
    by_cases h : d = prv p.1 c
    · by_cases h' : p.2 = k
      · rw [if_pos ⟨by rw [h, nxt_prv, h'], rfl⟩, if_pos h, if_pos h']
      · rw [if_neg (fun e => h' (congrArg Prod.snd (kcell_injective e.1)).symm), if_pos h, if_neg h']
    · rw [if_neg (fun e => h (by rw [show c = nxt p.1 d from congrArg Prod.fst (kcell_injective e.1), prv_nxt])), if_neg h]

/-- What all devices together owe a cell of device `c`. -/
theorem owed_sum (c : Dev nD) (k : CK) (l : List Pay) :
    ∑ d : Dev nD, owe d l (kcell (c, k)) () = (l.map fun p => if p.2 = k then amt p.2 else 0).sum := by
  simp only [owe_at]
  induction l with
  | nil => simp
  | cons p l ih =>
    simp only [List.map_cons, List.sum_cons]
    rw [Finset.sum_add_distrib, ih, Finset.sum_ite_eq' Finset.univ (prv p.1 c) fun _ => _, if_pos (Finset.mem_univ _)]

theorem launch_at (c : Dev nD) (k : CK) (n : ℕ) (hn : (pays.map fun p => if p.2 = k then amt p.2 else 0).sum = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same]
  exact (owed_sum c k pays).trans hn

omit [FloatOps F] in
theorem creds_intro (c : Dev nD) : (Pipeline.launchCred O₀ c : sProp 𝕄) ⊢ creds c := by
  have h : (Pipeline.launchCred O₀ c : sProp 𝕄) ⊢ bigSep Finset.univ fun k : CK =>
      cred (tallyOn (kcell (c, k)) (launchCredit (Pipeline.owing O₀) 0 (kcell (c, k)))) := by
    unfold Pipeline.launchCred
    rw [← show _ = (bigSep Finset.univ fun k : CK => cred (tallyOn (kcell (c, k)) (launchCredit (Pipeline.owing O₀) 0 (kcell (c, k)))) : sProp 𝕄) from
      bigSep_map (s := Finset.univ) ⟨csem, csem_injective⟩ (Φ := fun sm => cred (tallyOn ((c : Thread nD τ), sm) (launchCredit (Pipeline.owing O₀) 0 ((c : Thread nD τ), sm))))]
    exact bigSep_subset (Finset.subset_univ _)
  refine h.trans ?_
  rw [sepCK, launch_at c none 3 (by rfl), launch_at c (some (1, 0)) N (by rfl), launch_at c (some (1, 1)) N (by rfl),
    launch_at c (some (1, 2)) N (by rfl), launch_at c (some (3, 0)) N (by rfl), launch_at c (some (3, 1)) N (by rfl),
    launch_at c (some (3, 2)) N (by rfl)]
  unfold creds
  rw [sep3, sep3]
  iintro ⟨H, -, -, -, H10, H11, H12, -, -, -, H30, H31, H32⟩
  isplitl [H]; · iexact H
  isplitl [H10 H11 H12]
  · isplitl [H10]; · iexact H10
    isplitl [H11] <;> iassumption
  isplitl [H30]; · iexact H30
  isplitl [H31] <;> iassumption

/-! ## The run theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hr, Hz⟩
  ihave Hz := (sems0 (F := F) c).2 $$ Hz
  icases Hz with ⟨Ho, Hu⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have h : ∃ l : List Pay, (dats m ρ 0 c).owed t = owe c l ∧ (l = pays ∨ l = []) := by
      rcases t with ⟨_ | _, ht⟩
      · exact ⟨pays, rfl, Or.inl rfl⟩
      · exact ⟨[], rfl, Or.inr rfl⟩
    obtain ⟨l, hl, h⟩ := h
    rw [hl]
    refine mayWait c _ l ?_
    rcases h with rfl | rfl
    · fin_cases w <;> fin_cases s <;> decide
    · intro p hp; cases hp

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the four kernels
    terminates, each window's array at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array ends as it began. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealProof

end
-- ==== Proof.KernelIdealValue.lean ====
/-
# The value: every device's result is the reference's sum

Row block `d` of the result is the sum of row block `d` of the four devices' inputs, taken in an order that depends on
`d`. Over the extended reals the order does not matter, so each entry is the sum over the four devices — which is the
reference's sum over the leading axis of the whole input, cut into four.
-/
module

public import proofs.«01_k».proof.Proof.KernelIdealLaunch
public import proofs.«01_k».proof.Proof.Gen.ReferenceIdeal.Run
public import Idealize.ShloMosaic.Lib.Layout
public import Idealize.ShloMosaic.Lib.Pointwise

@[expose] public section

noncomputable section

namespace Cert.KernelIdealProof

open Cert.KernelIdeal Cert.KernelIdeal.Gen

open Idealize.ShloMosaic
open Idealize.ShloMosaic.TcCoe
open Idealize.SL.Sem

/-! ## The windows are the whole arrays -/

section
variable {F : FTy → Type} [FloatOps F]
variable (m : (ℓ : Loc nD τ sig) → Buf (Elt F) ℓ) (ρ : Dev nD → PrngReg)

/-- A device's staged input is its input array. -/
theorem xstg_eq (c : Dev nD) : xstg m ρ c = m ((c : Thread nD τ).loc main_arg0) :=
  Memref.read_access_unit_zero (Elt F) main_arg0
    (funext fun a => by fin_cases a <;> decide : (fun a => (win0_0.index (0 : Fin 1)) a * main_arg0.ty.shape.size a) = fun _ => 0)
    (fun a => by fin_cases a <;> decide) _

/-- The result array ends holding the four blocks of sums. -/
theorem finalA_out (c : Dev nD) : finalA m ρ c (1 : Fin 2) = outAll m ρ := by
  have h : (win0_1.blk (0 : Fin 1)).view.read (Elt F) (finalA m ρ c (1 : Fin 2)) = outAll m ρ := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (Memref.read_access_unit_zero (Elt F) main_v1
    (funext fun a => by fin_cases a <;> decide : (fun a => (win0_1.index (0 : Fin 1)) a * main_v1.ty.shape.size a) = fun _ => 0)
    (fun a => by fin_cases a <;> decide) _).symm.trans h

/-! ## An entry of a sum -/

/-- What a device reads of its own rows, -/
theorem xRd_cast (d : Dev nD) (y : S64x256.Idx) :
    shapeCast S64x256 (xRd m ρ d) shapeCasts_S64x256_S64x256 y = xstg m ρ d ((rowR d).emb y) := by
  show xRd m ρ d (Shape.reshapeEquiv shapeCasts_S64x256_S64x256 y) = _
  rw [Shape.reshapeEquiv_self]
  exact congrFun (View.readAt_unit_congr xM.view (off2_eq d) (k0_off2_inb d) (off2_eq d ▸ k0_off2_inb d) (xstg m ρ d)) y

/-- and of a slot of its first receive buffer. -/
theorem rsRd_cast (d : Dev nD) (j : Fin 3) (y : S64x256.Idx) :
    shapeCast S64x256 (rsRd m ρ d j) shapeCasts_S1x64x256_S64x256 y = xstg m ρ (prv j d) ((rowR d).emb y) := by
  show rsAll m ρ d ((slotR j).emb (Shape.reshapeEquiv shapeCasts_S1x64x256_S64x256 y)) = _
  rw [show Shape.reshapeEquiv shapeCasts_S1x64x256_S64x256 y = (Fin.cons ⟨0, Nat.one_pos⟩ y : S1x64x256.Idx) from Shape.reshapeEquiv_cons_one _ y]
  show xstg m ρ (prv (((slotR j).emb (Fin.cons ⟨0, Nat.one_pos⟩ y) : S3x64x256.Idx) 0) d)
    ((rowR d).emb (drop ((slotR j).emb (Fin.cons ⟨0, Nat.one_pos⟩ y)))) = _
  rw [slotR_zero, slotR_drop]

theorem red_apply (d : Dev nD) (y : S64x256.Idx) :
    red m ρ d y = FloatOps.addf (FloatOps.addf (FloatOps.addf (xstg m ρ d ((rowR d).emb y)) (xstg m ρ (prv 0 d) ((rowR d).emb y)))
      (xstg m ρ (prv 1 d) ((rowR d).emb y))) (xstg m ρ (prv 2 d) ((rowR d).emb y)) := by
  rw [← xRd_cast m ρ d y, ← rsRd_cast m ρ d 0 y, ← rsRd_cast m ρ d 1 y, ← rsRd_cast m ρ d 2 y]
  unfold red k0_pay1
  rw [shapeCast_apply _ _ y y rfl]
  rfl

/-- An entry of the result: the four devices' entries there, added in the order of the device that sums the row. -/
theorem outAll_apply (i : S256x256.Idx) :
    outAll m ρ i = FloatOps.addf (FloatOps.addf (FloatOps.addf (xstg m ρ (rowDev i) i) (xstg m ρ (prv 0 (rowDev i)) i))
      (xstg m ρ (prv 1 (rowDev i)) i)) (xstg m ρ (prv 2 (rowDev i)) i) := by
  unfold outAll
  rw [red_apply, row_emb]

end

/-! ## Over the extended reals -/

/-- A device and the three others make all four. -/
theorem sum_devs (f : Dev nD → EReal) (d : Dev nD) : f d + f (prv 0 d) + f (prv 1 d) + f (prv 2 d) = ∑ e : Fin 4, f e := by
  have h : (Finset.univ : Finset (Fin 4)) = {d, prv 0 d, prv 1 d, prv 2 d} := by revert d; decide
  have h0 : d ∉ ({prv 0 d, prv 1 d, prv 2 d} : Finset (Fin 4)) := by revert d; decide
  have h1 : prv 0 d ∉ ({prv 1 d, prv 2 d} : Finset (Fin 4)) := by revert d; decide
  have h2 : prv 1 d ≠ prv 2 d := by revert d; decide
  rw [h, Finset.sum_insert h0, Finset.sum_insert h1, Finset.sum_pair h2]
  simp only [add_assoc]

/-- The reference's result. -/
abbrev refVal (x : Cert.ReferenceIdeal.main_arg0.ty.Contents (Elt Ideal)) : Cert.ReferenceIdeal.main_v1.ty.Contents (Elt Ideal) :=
  Host.reduceAdd (shapeCast _ x Cert.ReferenceIdeal.Gen.shapeCasts_S1024x256_S4x256x256)
    (constant (F := Ideal) Cert.ReferenceIdeal.S_ .f32 0x00000000#32) Cert.ReferenceIdeal.Gen.reducesTo_S4x256x256_S256x256_d0 Cert.ReferenceIdeal.Gen.h_S_

/-- Block `e` of the reference's input. -/
abbrev blockOf (e : Fin 4) (x : Cert.ReferenceIdeal.main_arg0.ty.Contents (Elt Ideal)) : S256x256.Idx → EReal :=
  Layout.block ⟨2, ![256, 256]⟩ ⟨2, ![1024, 256]⟩ 0 4 e x

/-- The reference's sum at an entry is the sum over the four blocks of its input there. -/
theorem refVal_apply (x : Cert.ReferenceIdeal.main_arg0.ty.Contents (Elt Ideal)) (i : S256x256.Idx) :
    (refVal x i : EReal) = ∑ e : Fin 4, blockOf e x i := by
  unfold refVal blockOf
  rw [Host.reduceAdd_apply, Ideal.hostReduceAdd_def, Ideal.hostReduceAdd_r3_a0]
  have hz : constant (F := Ideal) Cert.ReferenceIdeal.S_ .f32 0x00000000#32 (Shape.Idx.first Cert.ReferenceIdeal.Gen.h_S_) = (0 : EReal) :=
    Ideal.ofBits_zero_f32
  rw [hz, zero_add]
  refine @Finset.sum_congr (Fin 4) EReal _ _ _ _ _ rfl fun e _ => ?_
  rw [Layout.block_apply]
  refine shapeCast_apply x _ _ _ ?_
  refine (Shape.rowMajor_val_two (d := ![1024, 256]) _).trans (Eq.trans ?_ (Shape.rowMajor_val_three (d := ![4, 256, 256]) _).symm)
  show (e.val * 256 + (i 0).val) * 256 + (i 1).val = (e.val * 256 + (i 0).val) * 256 + (i 1).val
  rfl

/-- The result, where the devices' inputs are the blocks of the reference's. -/
theorem outAll_eq (m : (ℓ : Loc nD τ sig) → Buf (Elt Ideal) ℓ) (ρ : Dev nD → PrngReg)
    (x : Cert.ReferenceIdeal.main_arg0.ty.Contents (Elt Ideal))
    (h : ∀ c : Dev nD, m ((c.tc : Thread nD τ).loc main_arg0) = Layout.block ⟨2, ![256, 256]⟩ ⟨2, ![1024, 256]⟩ 0 4 c x) :
    outAll m ρ = refVal x := by
  funext i
  rw [outAll_apply, refVal_apply]
  simp only [xstg_eq]
  rw [h, h, h, h]
  exact sum_devs (fun e => blockOf e x i) (rowDev i)

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealValue
public import Idealize.ShloMosaic.Adequacy
public import Idealize.ShloMosaic.Init

@[expose] public section

noncomputable section

namespace Cert.Proof

open Idealize.ShloMosaic Idealize.SL.Sem Cert.Kernel

/-- The kernel at the machine's words: it terminates, its inputs and its counters are as they were. -/
theorem frame_kernel : Cert.quiescent_Kernel (hKernel := Cert.Kernel.Gen.facts) := fun m ρ _ =>
  (θ_run _ _ _).mono (fun _ h => ⟨fun c => (h.1 c (0 : Fin 2)).trans (Cert.KernelProof.finalA_x m ρ c), h.2⟩)
    (Cert.KernelProof.run_main (F := Bits) m ρ)

/-- The same over the extended reals. -/
theorem frame_ideal : Cert.quiescent_KernelIdeal (hKernelIdeal := Cert.KernelIdeal.Gen.facts) := fun m ρ _ =>
  (θ_run _ _ _).mono (fun _ h => ⟨fun c => (h.1 c (0 : Fin 2)).trans (Cert.KernelIdealProof.finalA_x m ρ c), h.2⟩)
    (Cert.KernelIdealProof.run_main (F := Ideal) m ρ)

/-- The reference declares no semaphore, and writes no input. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

/-- Every device's result is the reference's. -/
theorem value : Cert.algebraic_KernelIdeal_ReferenceIdeal (hKernelIdeal := Cert.KernelIdeal.Gen.facts)
    (hReferenceIdeal := Cert.ReferenceIdeal.Gen.facts) := fun m ρ m' ρ' _ hin =>
  ⟨Cert.KernelIdealProof.refVal _,
    (θ_run _ _ _).mono (fun _ h c =>
        ⟨(h.1 c (1 : Fin 2)).trans ((Cert.KernelIdealProof.finalA_out m ρ c).trans (Cert.KernelIdealProof.outAll_eq m ρ _ hin)),
          (h.1 c (0 : Fin 2)).trans (Cert.KernelIdealProof.finalA_x m ρ c)⟩)
      (Cert.KernelIdealProof.run_main (F := Ideal) m ρ),
    (θ_run _ _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
